-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 1024, 8, 64]⟩ (Layout.meshBlock [2, 2, 2] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 1024, 8, 64]⟩ (Layout.meshBlock [2, 2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 1024, 8, 64]⟩ (Layout.meshBlock [2, 2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = Layout.blockN ⟨4, ![2, 512, 8, 64]⟩ ⟨4, ![2, 1024, 8, 64]⟩ (Layout.meshBlock [2, 2, 2] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)

variable [Facts]

def fn {F : FTy → Type} [FloatOps F] (main_arg0 : FVec F S2x512x8x64 .bf16) (main_arg1 : FVec F S2x512x8x64 .bf16) (main_arg2 : FVec F S2x512x8x64 .bf16) : IVec S2x512x8x64 1 :=
  let main_v0 : FVec F S2x512x8x64 .bf16 := Host.absf main_arg0
  let main_cst : FVec F S_ .bf16 := constant S_ .bf16 0x7F80#16
  let main_v1 : FVec F S2x512x8x64 .bf16 := broadcastInDim S2x512x8x64 ![] bcast_S_S2x512x8x64 main_cst
  let main_v2 : IVec S2x512x8x64 1 := cmpf .olt main_v0 main_v1
  let main_v3 : FVec F S2x512x8x64 .bf16 := Host.absf main_arg1
  let main_cst_0 : FVec F S_ .bf16 := constant S_ .bf16 0x7F80#16
  let main_v4 : FVec F S2x512x8x64 .bf16 := broadcastInDim S2x512x8x64 ![] bcast_S_S2x512x8x64 main_cst_0
  let main_v5 : IVec S2x512x8x64 1 := cmpf .olt main_v3 main_v4
  let main_v6 : IVec S2x512x8x64 1 := andi main_v2 main_v5
  main_v6
-- ==== Pre_finite_scores_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)

variable [Facts]

def fn {F : FTy → Type} [FloatOps F] (main_arg0 : FVec F S2x1024x8x64 .bf16) (main_arg1 : FVec F S2x1024x8x64 .bf16) (main_arg2 : FVec F S2x1024x8x64 .bf16) : IVec S2x1024x8x64 1 :=
  let main_v0 : FVec F S2x1024x8x64 .bf16 := Host.absf main_arg0
  let main_cst : FVec F S_ .bf16 := constant S_ .bf16 0x7F80#16
  let main_v1 : FVec F S2x1024x8x64 .bf16 := broadcastInDim S2x1024x8x64 ![] bcast_S_S2x1024x8x64 main_cst
  let main_v2 : IVec S2x1024x8x64 1 := cmpf .olt main_v0 main_v1
  let main_v3 : FVec F S2x1024x8x64 .bf16 := Host.absf main_arg1
  let main_cst_0 : FVec F S_ .bf16 := constant S_ .bf16 0x7F80#16
  let main_v4 : FVec F S2x1024x8x64 .bf16 := broadcastInDim S2x1024x8x64 ![] bcast_S_S2x1024x8x64 main_cst_0
  let main_v5 : IVec S2x1024x8x64 1 := cmpf .olt main_v3 main_v4
  let main_v6 : IVec S2x1024x8x64 1 := andi main_v2 main_v5
  main_v6
-- ==== Kernel.lean ====
abbrev S2x512x8x64 : Shape := ⟨4, ![2, 512, 8, 64]⟩
abbrev S_ : Shape := ⟨0, ![]⟩
abbrev S2x8x512x64 : Shape := ⟨4, ![2, 8, 512, 64]⟩
abbrev S16x512x64 : Shape := ⟨3, ![16, 512, 64]⟩
abbrev S16x512x1 : Shape := ⟨3, ![16, 512, 1]⟩
abbrev S16x512x65 : Shape := ⟨3, ![16, 512, 65]⟩
abbrev S16 : Shape := ⟨1, ![16]⟩
abbrev S1 : Shape := ⟨1, ![1]⟩
abbrev S16x32x64 : Shape := ⟨3, ![16, 32, 64]⟩
abbrev S16x32x65 : Shape := ⟨3, ![16, 32, 65]⟩
abbrev S1x512x64 : Shape := ⟨3, ![1, 512, 64]⟩
abbrev S512x64 : Shape := ⟨2, ![512, 64]⟩
abbrev S1x512x65 : Shape := ⟨3, ![1, 512, 65]⟩
abbrev S512x65 : Shape := ⟨2, ![512, 65]⟩
abbrev S512x512 : Shape := ⟨2, ![512, 512]⟩
abbrev S1x256x64 : Shape := ⟨3, ![1, 256, 64]⟩
abbrev S256x64 : Shape := ⟨2, ![256, 64]⟩
abbrev S1x256x65 : Shape := ⟨3, ![1, 256, 65]⟩
abbrev S256x65 : Shape := ⟨2, ![256, 65]⟩
abbrev S512x256 : Shape := ⟨2, ![512, 256]⟩
abbrev S512x1 : Shape := ⟨2, ![512, 1]⟩

abbrev nBuf : Space → Nat
  | .hbm => 18
  | .vmem => 7
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S_, .bf16⟩
  | .hbm, ⟨4, _⟩ => ⟨S2x512x8x64, .bf16⟩
  | .hbm, ⟨5, _⟩ => ⟨S2x512x8x64, .bf16⟩
  | .hbm, ⟨6, _⟩ => ⟨S2x8x512x64, .bf16⟩
  | .hbm, ⟨7, _⟩ => ⟨S16x512x64, .bf16⟩
  | .hbm, ⟨8, _⟩ => ⟨S2x8x512x64, .bf16⟩
  | .hbm, ⟨9, _⟩ => ⟨S16x512x64, .bf16⟩
  | .hbm, ⟨10, _⟩ => ⟨S2x8x512x64, .bf16⟩
  | .hbm, ⟨11, _⟩ => ⟨S16x512x64, .bf16⟩
  | .hbm, ⟨12, _⟩ => ⟨S_, .bf16⟩
  | .hbm, ⟨13, _⟩ => ⟨S16x512x1, .bf16⟩
  | .hbm, ⟨14, _⟩ => ⟨S16x512x65, .bf16⟩
  | .hbm, ⟨15, _⟩ => ⟨S16x512x64, .f32⟩
  | .hbm, ⟨16, _⟩ => ⟨S2x8x512x64, .f32⟩
  | .hbm, ⟨17, _⟩ => ⟨S2x512x8x64, .f32⟩
  | .local _ .vmem, ⟨0, _⟩ => ⟨S16x512x64, .bf16⟩
  | .local _ .vmem, ⟨1, _⟩ => ⟨S16x512x64, .bf16⟩
  | .local _ .vmem, ⟨2, _⟩ => ⟨S16x512x65, .bf16⟩
  | .local _ .vmem, ⟨3, _⟩ => ⟨S16x512x64, .f32⟩
  | .local _ .vmem, ⟨4, _⟩ => ⟨S16x512x64, .bf16⟩
  | .local _ .vmem, ⟨5, _⟩ => ⟨S16x512x65, .bf16⟩
  | .local _ .vmem, ⟨6, _⟩ => ⟨S16x512x65, .f32⟩
  | _, _ => ⟨S2x512x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_7 : BitVec 32 := 2#32
  let v14 : BitVec 32 := Scalar.muli v9 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_10 : BitVec 32 := 4#32
  let v18 : BitVec 32 := Scalar.muli v10 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_off1 (d0 : Dev nD) (c0_i32_17 : BitVec 32) : Fin 3 → Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v27 : BitVec 32 := Scalar.addi v24 c0_i32_17
  let c0_i32_25 : BitVec 32 := 0#32
  ![0, v27.toNat, 0]
def k0_dev3 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v28 : BitVec 32 := Scalar.muli v2 c4_i32_20
  let v29 : BitVec 32 := Scalar.addi c0_i32_21 v28
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_22 : BitVec 32 := 2#32
  let v30 : BitVec 32 := Scalar.muli v9 c2_i32_22
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v32 : BitVec 32 := Scalar.muli v8 c1_i32_23
  let v33 : BitVec 32 := Scalar.addi v31 v32
  v33.toNat
def k0_off2 (d0 : Dev nD) (c0_i32_17 : BitVec 32) : Fin 3 → Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v27 : BitVec 32 := Scalar.addi v24 c0_i32_17
  let c0_i32_35 : BitVec 32 := 0#32
  ![0, v27.toNat, 0]
def k0_dev4 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v40 : BitVec 32 := Scalar.muli v2 c4_i32_30
  let v41 : BitVec 32 := Scalar.addi c0_i32_31 v40
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_32 : BitVec 32 := 2#32
  let v42 : BitVec 32 := Scalar.muli v9 c2_i32_32
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v44 : BitVec 32 := Scalar.muli v8 c1_i32_33
  let v45 : BitVec 32 := Scalar.addi v43 v44
  v45.toNat
def k0_dev5 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v53 : BitVec 32 := Scalar.muli v2 c4_i32_40
  let v54 : BitVec 32 := Scalar.addi c0_i32_41 v53
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_42 : BitVec 32 := 2#32
  let v55 : BitVec 32 := Scalar.muli v9 c2_i32_42
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v57 : BitVec 32 := Scalar.muli v8 c1_i32_43
  let v58 : BitVec 32 := Scalar.addi v56 v57
  v58.toNat
def k0_dev6 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v65 : BitVec 32 := Scalar.muli v2 c4_i32_49
  let v66 : BitVec 32 := Scalar.addi c0_i32_50 v65
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_51 : BitVec 32 := 2#32
  let v67 : BitVec 32 := Scalar.muli v9 c2_i32_51
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v69 : BitVec 32 := Scalar.muli v8 c1_i32_52
  let v70 : BitVec 32 := Scalar.addi v68 v69
  v70.toNat
def k0_dev7 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v78 : BitVec 32 := Scalar.muli v2 c4_i32_59
  let v79 : BitVec 32 := Scalar.addi c0_i32_60 v78
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_61 : BitVec 32 := 2#32
  let v80 : BitVec 32 := Scalar.muli v9 c2_i32_61
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v82 : BitVec 32 := Scalar.muli v8 c1_i32_62
  let v83 : BitVec 32 := Scalar.addi v81 v82
  v83.toNat
def k0_dev8 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v90 : BitVec 32 := Scalar.muli v2 c4_i32_68
  let v91 : BitVec 32 := Scalar.addi c0_i32_69 v90
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_70 : BitVec 32 := 2#32
  let v92 : BitVec 32 := Scalar.muli v9 c2_i32_70
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v94 : BitVec 32 := Scalar.muli v8 c1_i32_71
  let v95 : BitVec 32 := Scalar.addi v93 v94
  v95.toNat
def k0_dev9 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v103 : BitVec 32 := Scalar.muli v2 c4_i32_77
  let v104 : BitVec 32 := Scalar.addi c0_i32_78 v103
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_79 : BitVec 32 := 2#32
  let v105 : BitVec 32 := Scalar.muli v9 c2_i32_79
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v107 : BitVec 32 := Scalar.muli v8 c1_i32_80
  let v108 : BitVec 32 := Scalar.addi v106 v107
  v108.toNat
def k0_dev10 (d0 : Dev nD) : Nat :=
  let c0_i32_87 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_86 : BitVec 32 := 4#32
  let v115 : BitVec 32 := Scalar.muli v2 c4_i32_86
  let v116 : BitVec 32 := Scalar.addi c0_i32_87 v115
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_88 : BitVec 32 := 2#32
  let v117 : BitVec 32 := Scalar.muli v9 c2_i32_88
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v119 : BitVec 32 := Scalar.muli v8 c1_i32_89
  let v120 : BitVec 32 := Scalar.addi v118 v119
  v120.toNat
def k0_dev11 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v128 : BitVec 32 := Scalar.muli v2 c4_i32_95
  let v129 : BitVec 32 := Scalar.addi c0_i32_96 v128
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_97 : BitVec 32 := 2#32
  let v130 : BitVec 32 := Scalar.muli v9 c2_i32_97
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v132 : BitVec 32 := Scalar.muli v8 c1_i32_98
  let v133 : BitVec 32 := Scalar.addi v131 v132
  v133.toNat
def k0_dev12 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v140 : BitVec 32 := Scalar.muli v2 c4_i32_104
  let v141 : BitVec 32 := Scalar.addi c0_i32_105 v140
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_106 : BitVec 32 := 2#32
  let v142 : BitVec 32 := Scalar.muli v9 c2_i32_106
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v144 : BitVec 32 := Scalar.muli v8 c1_i32_107
  let v145 : BitVec 32 := Scalar.addi v143 v144
  v145.toNat
def k0_dev13 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v153 : BitVec 32 := Scalar.muli v2 c4_i32_113
  let v154 : BitVec 32 := Scalar.addi c0_i32_114 v153
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_115 : BitVec 32 := 2#32
  let v155 : BitVec 32 := Scalar.muli v9 c2_i32_115
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v157 : BitVec 32 := Scalar.muli v8 c1_i32_116
  let v158 : BitVec 32 := Scalar.addi v156 v157
  v158.toNat
def k0_dev14 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v165 : BitVec 32 := Scalar.muli v2 c4_i32_122
  let v166 : BitVec 32 := Scalar.addi c0_i32_123 v165
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_124 : BitVec 32 := 2#32
  let v167 : BitVec 32 := Scalar.muli v9 c2_i32_124
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v169 : BitVec 32 := Scalar.muli v8 c1_i32_125
  let v170 : BitVec 32 := Scalar.addi v168 v169
  v170.toNat
def k0_dev15 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v178 : BitVec 32 := Scalar.muli v2 c4_i32_131
  let v179 : BitVec 32 := Scalar.addi c0_i32_132 v178
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_133 : BitVec 32 := 2#32
  let v180 : BitVec 32 := Scalar.muli v9 c2_i32_133
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v182 : BitVec 32 := Scalar.muli v8 c1_i32_134
  let v183 : BitVec 32 := Scalar.addi v181 v182
  v183.toNat
def k0_dev16 (d0 : Dev nD) : Nat :=
  let c0_i32_141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_140 : BitVec 32 := 4#32
  let v190 : BitVec 32 := Scalar.muli v2 c4_i32_140
  let v191 : BitVec 32 := Scalar.addi c0_i32_141 v190
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_142 : BitVec 32 := 2#32
  let v192 : BitVec 32 := Scalar.muli v9 c2_i32_142
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v194 : BitVec 32 := Scalar.muli v8 c1_i32_143
  let v195 : BitVec 32 := Scalar.addi v193 v194
  v195.toNat
def k0_dev17 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v203 : BitVec 32 := Scalar.muli v2 c4_i32_149
  let v204 : BitVec 32 := Scalar.addi c0_i32_150 v203
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_151 : BitVec 32 := 2#32
  let v205 : BitVec 32 := Scalar.muli v9 c2_i32_151
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v207 : BitVec 32 := Scalar.muli v8 c1_i32_152
  let v208 : BitVec 32 := Scalar.addi v206 v207
  v208.toNat
def k0_dev18 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v215 : BitVec 32 := Scalar.muli v2 c4_i32_158
  let v216 : BitVec 32 := Scalar.addi c0_i32_159 v215
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_160 : BitVec 32 := 2#32
  let v217 : BitVec 32 := Scalar.muli v9 c2_i32_160
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v219 : BitVec 32 := Scalar.muli v8 c1_i32_161
  let v220 : BitVec 32 := Scalar.addi v218 v219
  v220.toNat
def k0_dev19 (d0 : Dev nD) : Nat :=
  let c0_i32_190 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_189 : BitVec 32 := 4#32
  let v248 : BitVec 32 := Scalar.muli v10 c4_i32_189
  let v249 : BitVec 32 := Scalar.addi c0_i32_190 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_191 : BitVec 32 := 2#32
  let v250 : BitVec 32 := Scalar.muli v5 c2_i32_191
  let v251 : BitVec 32 := Scalar.addi v249 v250
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_192 : BitVec 32 := 1#32
  let v252 : BitVec 32 := Scalar.muli v8 c1_i32_192
  let v253 : BitVec 32 := Scalar.addi v251 v252
  v253.toNat
def k0_dev20 (d0 : Dev nD) : Nat :=
  let c0_i32_200 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_199 : BitVec 32 := 4#32
  let v260 : BitVec 32 := Scalar.muli v10 c4_i32_199
  let v261 : BitVec 32 := Scalar.addi c0_i32_200 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_201 : BitVec 32 := 2#32
  let v262 : BitVec 32 := Scalar.muli v5 c2_i32_201
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v264 : BitVec 32 := Scalar.muli v8 c1_i32_202
  let v265 : BitVec 32 := Scalar.addi v263 v264
  v265.toNat
def k0_dev21 (d0 : Dev nD) : Nat :=
  let c0_i32_256 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_255 : BitVec 32 := 4#32
  let v319 : BitVec 32 := Scalar.muli v10 c4_i32_255
  let v320 : BitVec 32 := Scalar.addi c0_i32_256 v319
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v321 : BitVec 32 := Scalar.muli v5 c2_i32_257
  let v322 : BitVec 32 := Scalar.addi v320 v321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_258 : BitVec 32 := 1#32
  let v323 : BitVec 32 := Scalar.muli v8 c1_i32_258
  let v324 : BitVec 32 := Scalar.addi v322 v323
  v324.toNat
def k0_dev22 (d0 : Dev nD) : Nat :=
  let c0_i32_266 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_265 : BitVec 32 := 4#32
  let v331 : BitVec 32 := Scalar.muli v10 c4_i32_265
  let v332 : BitVec 32 := Scalar.addi c0_i32_266 v331
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_267 : BitVec 32 := 2#32
  let v333 : BitVec 32 := Scalar.muli v5 c2_i32_267
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_268 : BitVec 32 := 1#32
  let v335 : BitVec 32 := Scalar.muli v8 c1_i32_268
  let v336 : BitVec 32 := Scalar.addi v334 v335
  v336.toNat
def k0_dev23 (d0 : Dev nD) : Nat :=
  let c0_i32_323 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_322 : BitVec 32 := 4#32
  let v390 : BitVec 32 := Scalar.muli v10 c4_i32_322
  let v391 : BitVec 32 := Scalar.addi c0_i32_323 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v392 : BitVec 32 := Scalar.muli v5 c2_i32_324
  let v393 : BitVec 32 := Scalar.addi v391 v392
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_325 : BitVec 32 := 1#32
  let v394 : BitVec 32 := Scalar.muli v8 c1_i32_325
  let v395 : BitVec 32 := Scalar.addi v393 v394
  v395.toNat
def k0_dev24 (d0 : Dev nD) : Nat :=
  let c0_i32_333 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_332 : BitVec 32 := 4#32
  let v402 : BitVec 32 := Scalar.muli v10 c4_i32_332
  let v403 : BitVec 32 := Scalar.addi c0_i32_333 v402
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_334 : BitVec 32 := 2#32
  let v404 : BitVec 32 := Scalar.muli v5 c2_i32_334
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_335 : BitVec 32 := 1#32
  let v406 : BitVec 32 := Scalar.muli v8 c1_i32_335
  let v407 : BitVec 32 := Scalar.addi v405 v406
  v407.toNat
def k0_dev25 (d0 : Dev nD) : Nat :=
  let c0_i32_390 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_389 : BitVec 32 := 4#32
  let v461 : BitVec 32 := Scalar.muli v10 c4_i32_389
  let v462 : BitVec 32 := Scalar.addi c0_i32_390 v461
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_391 : BitVec 32 := 2#32
  let v463 : BitVec 32 := Scalar.muli v5 c2_i32_391
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_392 : BitVec 32 := 1#32
  let v465 : BitVec 32 := Scalar.muli v8 c1_i32_392
  let v466 : BitVec 32 := Scalar.addi v464 v465
  v466.toNat
def k0_dev26 (d0 : Dev nD) : Nat :=
  let c0_i32_400 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_399 : BitVec 32 := 4#32
  let v473 : BitVec 32 := Scalar.muli v10 c4_i32_399
  let v474 : BitVec 32 := Scalar.addi c0_i32_400 v473
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v475 : BitVec 32 := Scalar.muli v5 c2_i32_401
  let v476 : BitVec 32 := Scalar.addi v474 v475
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_402 : BitVec 32 := 1#32
  let v477 : BitVec 32 := Scalar.muli v8 c1_i32_402
  let v478 : BitVec 32 := Scalar.addi v476 v477
  v478.toNat
def k0_dev27 (d0 : Dev nD) : Nat :=
  let c0_i32_457 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_456 : BitVec 32 := 4#32
  let v532 : BitVec 32 := Scalar.muli v10 c4_i32_456
  let v533 : BitVec 32 := Scalar.addi c0_i32_457 v532
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_458 : BitVec 32 := 2#32
  let v534 : BitVec 32 := Scalar.muli v5 c2_i32_458
  let v535 : BitVec 32 := Scalar.addi v533 v534
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_459 : BitVec 32 := 1#32
  let v536 : BitVec 32 := Scalar.muli v8 c1_i32_459
  let v537 : BitVec 32 := Scalar.addi v535 v536
  v537.toNat
def k0_dev28 (d0 : Dev nD) : Nat :=
  let c0_i32_467 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_466 : BitVec 32 := 4#32
  let v544 : BitVec 32 := Scalar.muli v10 c4_i32_466
  let v545 : BitVec 32 := Scalar.addi c0_i32_467 v544
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v546 : BitVec 32 := Scalar.muli v5 c2_i32_468
  let v547 : BitVec 32 := Scalar.addi v545 v546
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_469 : BitVec 32 := 1#32
  let v548 : BitVec 32 := Scalar.muli v8 c1_i32_469
  let v549 : BitVec 32 := Scalar.addi v547 v548
  v549.toNat
def k0_dev29 (d0 : Dev nD) : Nat :=
  let c0_i32_524 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_523 : BitVec 32 := 4#32
  let v603 : BitVec 32 := Scalar.muli v10 c4_i32_523
  let v604 : BitVec 32 := Scalar.addi c0_i32_524 v603
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_525 : BitVec 32 := 2#32
  let v605 : BitVec 32 := Scalar.muli v5 c2_i32_525
  let v606 : BitVec 32 := Scalar.addi v604 v605
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_526 : BitVec 32 := 1#32
  let v607 : BitVec 32 := Scalar.muli v8 c1_i32_526
  let v608 : BitVec 32 := Scalar.addi v606 v607
  v608.toNat
def k0_dev30 (d0 : Dev nD) : Nat :=
  let c0_i32_534 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_533 : BitVec 32 := 4#32
  let v615 : BitVec 32 := Scalar.muli v10 c4_i32_533
  let v616 : BitVec 32 := Scalar.addi c0_i32_534 v615
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_535 : BitVec 32 := 2#32
  let v617 : BitVec 32 := Scalar.muli v5 c2_i32_535
  let v618 : BitVec 32 := Scalar.addi v616 v617
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_536 : BitVec 32 := 1#32
  let v619 : BitVec 32 := Scalar.muli v8 c1_i32_536
  let v620 : BitVec 32 := Scalar.addi v618 v619
  v620.toNat
def k0_dev31 (d0 : Dev nD) : Nat :=
  let c0_i32_591 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_590 : BitVec 32 := 4#32
  let v674 : BitVec 32 := Scalar.muli v10 c4_i32_590
  let v675 : BitVec 32 := Scalar.addi c0_i32_591 v674
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_592 : BitVec 32 := 2#32
  let v676 : BitVec 32 := Scalar.muli v5 c2_i32_592
  let v677 : BitVec 32 := Scalar.addi v675 v676
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_593 : BitVec 32 := 1#32
  let v678 : BitVec 32 := Scalar.muli v8 c1_i32_593
  let v679 : BitVec 32 := Scalar.addi v677 v678
  v679.toNat
def k0_dev32 (d0 : Dev nD) : Nat :=
  let c0_i32_601 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_600 : BitVec 32 := 4#32
  let v686 : BitVec 32 := Scalar.muli v10 c4_i32_600
  let v687 : BitVec 32 := Scalar.addi c0_i32_601 v686
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_602 : BitVec 32 := 2#32
  let v688 : BitVec 32 := Scalar.muli v5 c2_i32_602
  let v689 : BitVec 32 := Scalar.addi v687 v688
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_603 : BitVec 32 := 1#32
  let v690 : BitVec 32 := Scalar.muli v8 c1_i32_603
  let v691 : BitVec 32 := Scalar.addi v689 v690
  v691.toNat
def k0_dev33 (d0 : Dev nD) : Nat :=
  let c0_i32_658 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_657 : BitVec 32 := 4#32
  let v745 : BitVec 32 := Scalar.muli v10 c4_i32_657
  let v746 : BitVec 32 := Scalar.addi c0_i32_658 v745
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_659 : BitVec 32 := 2#32
  let v747 : BitVec 32 := Scalar.muli v5 c2_i32_659
  let v748 : BitVec 32 := Scalar.addi v746 v747
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_660 : BitVec 32 := 1#32
  let v749 : BitVec 32 := Scalar.muli v8 c1_i32_660
  let v750 : BitVec 32 := Scalar.addi v748 v749
  v750.toNat
def k0_dev34 (d0 : Dev nD) : Nat :=
  let c0_i32_668 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_667 : BitVec 32 := 4#32
  let v757 : BitVec 32 := Scalar.muli v10 c4_i32_667
  let v758 : BitVec 32 := Scalar.addi c0_i32_668 v757
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_669 : BitVec 32 := 2#32
  let v759 : BitVec 32 := Scalar.muli v5 c2_i32_669
  let v760 : BitVec 32 := Scalar.addi v758 v759
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_670 : BitVec 32 := 1#32
  let v761 : BitVec 32 := Scalar.muli v8 c1_i32_670
  let v762 : BitVec 32 := Scalar.addi v760 v761
  v762.toNat
def k0_off3 (d0 : Dev nD) : Fin 3 → Nat :=
  let c0_701 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v795 : Index := Scalar.indexCast v24
  let c0_702 : Index := 0#32
  ![0, v795.toNat, 0]
def k0_off4 (d0 : Dev nD) : Fin 3 → Nat :=
  let c0_703 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v798 : Index := Scalar.indexCast v24
  let c0_704 : Index := 0#32
  ![0, v798.toNat, 0]
def k0_off5 (d0 : Dev nD) : Fin 3 → Nat :=
  let c1_716 : Index := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v813 : Index := Scalar.indexCast v24
  let c0_717 : Index := 0#32
  ![1, v813.toNat, 0]
def k0_off6 (d0 : Dev nD) : Fin 3 → Nat :=
  let c1_718 : Index := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v816 : Index := Scalar.indexCast v24
  let c0_719 : Index := 0#32
  ![1, v816.toNat, 0]
def k0_off7 (d0 : Dev nD) : Fin 3 → Nat :=
  let c2_731 : Index := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v831 : Index := Scalar.indexCast v24
  let c0_732 : Index := 0#32
  ![2, v831.toNat, 0]
def k0_off8 (d0 : Dev nD) : Fin 3 → Nat :=
  let c2_733 : Index := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v834 : Index := Scalar.indexCast v24
  let c0_734 : Index := 0#32
  ![2, v834.toNat, 0]
def k0_off9 (d0 : Dev nD) : Fin 3 → Nat :=
  let c3_746 : Index := 3#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v849 : Index := Scalar.indexCast v24
  let c0_747 : Index := 0#32
  ![3, v849.toNat, 0]
def k0_off10 (d0 : Dev nD) : Fin 3 → Nat :=
  let c3_748 : Index := 3#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v852 : Index := Scalar.indexCast v24
  let c0_749 : Index := 0#32
  ![3, v852.toNat, 0]
def k0_off11 (d0 : Dev nD) : Fin 3 → Nat :=
  let c4_761 : Index := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v867 : Index := Scalar.indexCast v24
  let c0_762 : Index := 0#32
  ![4, v867.toNat, 0]
def k0_off12 (d0 : Dev nD) : Fin 3 → Nat :=
  let c4_763 : Index := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v870 : Index := Scalar.indexCast v24
  let c0_764 : Index := 0#32
  ![4, v870.toNat, 0]
def k0_off13 (d0 : Dev nD) : Fin 3 → Nat :=
  let c5_776 : Index := 5#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v885 : Index := Scalar.indexCast v24
  let c0_777 : Index := 0#32
  ![5, v885.toNat, 0]
def k0_off14 (d0 : Dev nD) : Fin 3 → Nat :=
  let c5_778 : Index := 5#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v888 : Index := Scalar.indexCast v24
  let c0_779 : Index := 0#32
  ![5, v888.toNat, 0]
def k0_off15 (d0 : Dev nD) : Fin 3 → Nat :=
  let c6_791 : Index := 6#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v903 : Index := Scalar.indexCast v24
  let c0_792 : Index := 0#32
  ![6, v903.toNat, 0]
def k0_off16 (d0 : Dev nD) : Fin 3 → Nat :=
  let c6_793 : Index := 6#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v906 : Index := Scalar.indexCast v24
  let c0_794 : Index := 0#32
  ![6, v906.toNat, 0]
def k0_off17 (d0 : Dev nD) : Fin 3 → Nat :=
  let c7_806 : Index := 7#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v921 : Index := Scalar.indexCast v24
  let c0_807 : Index := 0#32
  ![7, v921.toNat, 0]
def k0_off18 (d0 : Dev nD) : Fin 3 → Nat :=
  let c7_808 : Index := 7#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v924 : Index := Scalar.indexCast v24
  let c0_809 : Index := 0#32
  ![7, v924.toNat, 0]
def k0_off19 (d0 : Dev nD) : Fin 3 → Nat :=
  let c8_821 : Index := 8#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v939 : Index := Scalar.indexCast v24
  let c0_822 : Index := 0#32
  ![8, v939.toNat, 0]
def k0_off20 (d0 : Dev nD) : Fin 3 → Nat :=
  let c8_823 : Index := 8#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v942 : Index := Scalar.indexCast v24
  let c0_824 : Index := 0#32
  ![8, v942.toNat, 0]
def k0_off21 (d0 : Dev nD) : Fin 3 → Nat :=
  let c9_836 : Index := 9#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v957 : Index := Scalar.indexCast v24
  let c0_837 : Index := 0#32
  ![9, v957.toNat, 0]
def k0_off22 (d0 : Dev nD) : Fin 3 → Nat :=
  let c9_838 : Index := 9#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v960 : Index := Scalar.indexCast v24
  let c0_839 : Index := 0#32
  ![9, v960.toNat, 0]
def k0_off23 (d0 : Dev nD) : Fin 3 → Nat :=
  let c10_851 : Index := 10#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v975 : Index := Scalar.indexCast v24
  let c0_852 : Index := 0#32
  ![10, v975.toNat, 0]
def k0_off24 (d0 : Dev nD) : Fin 3 → Nat :=
  let c10_853 : Index := 10#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v978 : Index := Scalar.indexCast v24
  let c0_854 : Index := 0#32
  ![10, v978.toNat, 0]
def k0_off25 (d0 : Dev nD) : Fin 3 → Nat :=
  let c11_866 : Index := 11#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v993 : Index := Scalar.indexCast v24
  let c0_867 : Index := 0#32
  ![11, v993.toNat, 0]
def k0_off26 (d0 : Dev nD) : Fin 3 → Nat :=
  let c11_868 : Index := 11#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v996 : Index := Scalar.indexCast v24
  let c0_869 : Index := 0#32
  ![11, v996.toNat, 0]
def k0_off27 (d0 : Dev nD) : Fin 3 → Nat :=
  let c12_881 : Index := 12#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v1011 : Index := Scalar.indexCast v24
  let c0_882 : Index := 0#32
  ![12, v1011.toNat, 0]
def k0_off28 (d0 : Dev nD) : Fin 3 → Nat :=
  let c12_883 : Index := 12#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v1014 : Index := Scalar.indexCast v24
  let c0_884 : Index := 0#32
  ![12, v1014.toNat, 0]
def k0_off29 (d0 : Dev nD) : Fin 3 → Nat :=
  let c13_896 : Index := 13#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v1029 : Index := Scalar.indexCast v24
  let c0_897 : Index := 0#32
  ![13, v1029.toNat, 0]
def k0_off30 (d0 : Dev nD) : Fin 3 → Nat :=
  let c13_898 : Index := 13#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v1032 : Index := Scalar.indexCast v24
  let c0_899 : Index := 0#32
  ![13, v1032.toNat, 0]
def k0_off31 (d0 : Dev nD) : Fin 3 → Nat :=
  let c14_911 : Index := 14#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v1047 : Index := Scalar.indexCast v24
  let c0_912 : Index := 0#32
  ![14, v1047.toNat, 0]
def k0_off32 (d0 : Dev nD) : Fin 3 → Nat :=
  let c14_913 : Index := 14#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v1050 : Index := Scalar.indexCast v24
  let c0_914 : Index := 0#32
  ![14, v1050.toNat, 0]
def k0_off33 (d0 : Dev nD) : Fin 3 → Nat :=
  let c15_926 : Index := 15#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v1065 : Index := Scalar.indexCast v24
  let c0_927 : Index := 0#32
  ![15, v1065.toNat, 0]
def k0_off34 (d0 : Dev nD) : Fin 3 → Nat :=
  let c15_928 : Index := 15#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v24 : BitVec 32 := Scalar.muli v2 c256_i32
  let v1068 : Index := Scalar.indexCast v24
  let c0_929 : Index := 0#32
  ![15, v1068.toNat, 0]
def k0_off35 (d0 : Dev nD) (c0_i32_941 : BitVec 32) : Fin 3 → Nat :=
  let c0_i32_948 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1083 : BitVec 32 := Scalar.addi v26 c0_i32_941
  let c0_i32_949 : BitVec 32 := 0#32
  ![0, v1083.toNat, 0]
def k0_off36 (d0 : Dev nD) (c0_i32_941 : BitVec 32) : Fin 3 → Nat :=
  let c0_i32_958 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1083 : BitVec 32 := Scalar.addi v26 c0_i32_941
  let c0_i32_959 : BitVec 32 := 0#32
  ![0, v1083.toNat, 0]
def k0_off37 (d0 : Dev nD) : Fin 3 → Nat :=
  let c0_1109 : Index := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1251 : Index := Scalar.indexCast v26
  let c0_1110 : Index := 0#32
  ![0, v1251.toNat, 0]
def k0_off38 (d0 : Dev nD) : Fin 3 → Nat :=
  let c0_1111 : Index := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1254 : Index := Scalar.indexCast v26
  let c0_1112 : Index := 0#32
  ![0, v1254.toNat, 0]
def k0_off39 (d0 : Dev nD) : Fin 3 → Nat :=
  let c1_1124 : Index := 1#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1273 : Index := Scalar.indexCast v26
  let c0_1125 : Index := 0#32
  ![1, v1273.toNat, 0]
def k0_off40 (d0 : Dev nD) : Fin 3 → Nat :=
  let c1_1126 : Index := 1#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1276 : Index := Scalar.indexCast v26
  let c0_1127 : Index := 0#32
  ![1, v1276.toNat, 0]
def k0_off41 (d0 : Dev nD) : Fin 3 → Nat :=
  let c2_1139 : Index := 2#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1295 : Index := Scalar.indexCast v26
  let c0_1140 : Index := 0#32
  ![2, v1295.toNat, 0]
def k0_off42 (d0 : Dev nD) : Fin 3 → Nat :=
  let c2_1141 : Index := 2#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1298 : Index := Scalar.indexCast v26
  let c0_1142 : Index := 0#32
  ![2, v1298.toNat, 0]
def k0_off43 (d0 : Dev nD) : Fin 3 → Nat :=
  let c3_1154 : Index := 3#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1317 : Index := Scalar.indexCast v26
  let c0_1155 : Index := 0#32
  ![3, v1317.toNat, 0]
def k0_off44 (d0 : Dev nD) : Fin 3 → Nat :=
  let c3_1156 : Index := 3#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1320 : Index := Scalar.indexCast v26
  let c0_1157 : Index := 0#32
  ![3, v1320.toNat, 0]
def k0_off45 (d0 : Dev nD) : Fin 3 → Nat :=
  let c4_1169 : Index := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1339 : Index := Scalar.indexCast v26
  let c0_1170 : Index := 0#32
  ![4, v1339.toNat, 0]
def k0_off46 (d0 : Dev nD) : Fin 3 → Nat :=
  let c4_1171 : Index := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1342 : Index := Scalar.indexCast v26
  let c0_1172 : Index := 0#32
  ![4, v1342.toNat, 0]
def k0_off47 (d0 : Dev nD) : Fin 3 → Nat :=
  let c5_1184 : Index := 5#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1361 : Index := Scalar.indexCast v26
  let c0_1185 : Index := 0#32
  ![5, v1361.toNat, 0]
def k0_off48 (d0 : Dev nD) : Fin 3 → Nat :=
  let c5_1186 : Index := 5#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1364 : Index := Scalar.indexCast v26
  let c0_1187 : Index := 0#32
  ![5, v1364.toNat, 0]
def k0_off49 (d0 : Dev nD) : Fin 3 → Nat :=
  let c6_1199 : Index := 6#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1383 : Index := Scalar.indexCast v26
  let c0_1200 : Index := 0#32
  ![6, v1383.toNat, 0]
def k0_off50 (d0 : Dev nD) : Fin 3 → Nat :=
  let c6_1201 : Index := 6#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1386 : Index := Scalar.indexCast v26
  let c0_1202 : Index := 0#32
  ![6, v1386.toNat, 0]
def k0_off51 (d0 : Dev nD) : Fin 3 → Nat :=
  let c7_1214 : Index := 7#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1405 : Index := Scalar.indexCast v26
  let c0_1215 : Index := 0#32
  ![7, v1405.toNat, 0]
def k0_off52 (d0 : Dev nD) : Fin 3 → Nat :=
  let c7_1216 : Index := 7#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1408 : Index := Scalar.indexCast v26
  let c0_1217 : Index := 0#32
  ![7, v1408.toNat, 0]
def k0_off53 (d0 : Dev nD) : Fin 3 → Nat :=
  let c8_1229 : Index := 8#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1427 : Index := Scalar.indexCast v26
  let c0_1230 : Index := 0#32
  ![8, v1427.toNat, 0]
def k0_off54 (d0 : Dev nD) : Fin 3 → Nat :=
  let c8_1231 : Index := 8#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1430 : Index := Scalar.indexCast v26
  let c0_1232 : Index := 0#32
  ![8, v1430.toNat, 0]
def k0_off55 (d0 : Dev nD) : Fin 3 → Nat :=
  let c9_1244 : Index := 9#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1449 : Index := Scalar.indexCast v26
  let c0_1245 : Index := 0#32
  ![9, v1449.toNat, 0]
def k0_off56 (d0 : Dev nD) : Fin 3 → Nat :=
  let c9_1246 : Index := 9#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1452 : Index := Scalar.indexCast v26
  let c0_1247 : Index := 0#32
  ![9, v1452.toNat, 0]
def k0_off57 (d0 : Dev nD) : Fin 3 → Nat :=
  let c10_1259 : Index := 10#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1471 : Index := Scalar.indexCast v26
  let c0_1260 : Index := 0#32
  ![10, v1471.toNat, 0]
def k0_off58 (d0 : Dev nD) : Fin 3 → Nat :=
  let c10_1261 : Index := 10#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1474 : Index := Scalar.indexCast v26
  let c0_1262 : Index := 0#32
  ![10, v1474.toNat, 0]
def k0_off59 (d0 : Dev nD) : Fin 3 → Nat :=
  let c11_1274 : Index := 11#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1493 : Index := Scalar.indexCast v26
  let c0_1275 : Index := 0#32
  ![11, v1493.toNat, 0]
def k0_off60 (d0 : Dev nD) : Fin 3 → Nat :=
  let c11_1276 : Index := 11#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1496 : Index := Scalar.indexCast v26
  let c0_1277 : Index := 0#32
  ![11, v1496.toNat, 0]
def k0_off61 (d0 : Dev nD) : Fin 3 → Nat :=
  let c12_1289 : Index := 12#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1515 : Index := Scalar.indexCast v26
  let c0_1290 : Index := 0#32
  ![12, v1515.toNat, 0]
def k0_off62 (d0 : Dev nD) : Fin 3 → Nat :=
  let c12_1291 : Index := 12#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1518 : Index := Scalar.indexCast v26
  let c0_1292 : Index := 0#32
  ![12, v1518.toNat, 0]
def k0_off63 (d0 : Dev nD) : Fin 3 → Nat :=
  let c13_1304 : Index := 13#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1537 : Index := Scalar.indexCast v26
  let c0_1305 : Index := 0#32
  ![13, v1537.toNat, 0]
def k0_off64 (d0 : Dev nD) : Fin 3 → Nat :=
  let c13_1306 : Index := 13#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1540 : Index := Scalar.indexCast v26
  let c0_1307 : Index := 0#32
  ![13, v1540.toNat, 0]
def k0_off65 (d0 : Dev nD) : Fin 3 → Nat :=
  let c14_1319 : Index := 14#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1559 : Index := Scalar.indexCast v26
  let c0_1320 : Index := 0#32
  ![14, v1559.toNat, 0]
def k0_off66 (d0 : Dev nD) : Fin 3 → Nat :=
  let c14_1321 : Index := 14#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1562 : Index := Scalar.indexCast v26
  let c0_1322 : Index := 0#32
  ![14, v1562.toNat, 0]
def k0_off67 (d0 : Dev nD) : Fin 3 → Nat :=
  let c15_1334 : Index := 15#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1581 : Index := Scalar.indexCast v26
  let c0_1335 : Index := 0#32
  ![15, v1581.toNat, 0]
def k0_off68 (d0 : Dev nD) : Fin 3 → Nat :=
  let c15_1336 : Index := 15#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let c256_i32_16 : BitVec 32 := 256#32
  let v26 : BitVec 32 := Scalar.muli v25 c256_i32_16
  let v1584 : Index := Scalar.indexCast v26
  let c0_1337 : Index := 0#32
  ![15, v1584.toNat, 0]
abbrev stage0_0 : Fin 1 → Memref sig .tc .vmem S16x512x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512x65 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x1024x8x64, .bf16⟩
  | .hbm, ⟨1, _⟩ => ⟨S2x1024x8x64, .bf16⟩
  | .hbm, ⟨2, _⟩ => ⟨S2x1024x8x64, .bf16⟩
  | .hbm, ⟨3, _⟩ => ⟨S2x1024x8x64, .f32⟩
  | .hbm, ⟨4, _⟩ => ⟨S2x1024x8x64, .f32⟩
  | .hbm, ⟨5, _⟩ => ⟨S2x1024x8x64, .f32⟩
  | .hbm, ⟨6, _⟩ => ⟨S2x8x1024x1024, .f32⟩
  | .hbm, ⟨7, _⟩ => ⟨S_, .f32⟩
  | .hbm, ⟨8, _⟩ => ⟨S2x8x1024x1024, .f32⟩
  | .hbm, ⟨9, _⟩ => ⟨S2x8x1024x1024, .f32⟩
  | .hbm, ⟨10, _⟩ => ⟨S_, .f32⟩
  | .hbm, ⟨11, _⟩ => ⟨S2x8x1024, .f32⟩
  | .hbm, ⟨12, _⟩ => ⟨S2x8x1024x1, .f32⟩
  | .hbm, ⟨13, _⟩ => ⟨S2x8x1024x1024, .f32⟩
  | .hbm, ⟨14, _⟩ => ⟨S2x8x1024x1024, .f32⟩
  | .hbm, ⟨15, _⟩ => ⟨S2x8x1024x1024, .f32⟩
  | .hbm, ⟨16, _⟩ => ⟨S_, .f32⟩
  | .hbm, ⟨17, _⟩ => ⟨S2x8x1024, .f32⟩
  | .hbm, ⟨18, _⟩ => ⟨S2x8x1024x1, .f32⟩
  | .hbm, ⟨19, _⟩ => ⟨S2x8x1024x1024, .f32⟩
  | .hbm, ⟨20, _⟩ => ⟨S2x8x1024x1024, .f32⟩
  | .hbm, ⟨21, _⟩ => ⟨S2x8x64x1024, .f32⟩
  | .hbm, ⟨22, _⟩ => ⟨S2x1024x8x64, .f32⟩
  | _, _ => ⟨S2x1024x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Prog.lean ====
/- The kernel's body once more, as loops over the chunks and the heads: each piece of it at a symbolic
   chunk or head, the pieces in continuation form, and the printed body equal to it by unfolding. -/
module

public import proofs.«01_k».proof.Proof.Gen.KernelIdeal.Skeleton

@[expose] public section

noncomputable section

namespace Cert.KernelIdeal.Attn

open Idealize.ShloMosaic Idealize.SL.Sem
open Cert.KernelIdeal.Gen

variable {F : FTy → Type} [FloatOps F]

/-- The programs of the body. -/
abbrev BProg (F : FTy → Type) [FloatOps F] := Prog (TpuEff nD τ sig (Elt F) Λ₀ .tc) PUnit

/-- The pieces `f 0`, …, `f (N - 1)` in order, then `k`: `n` of them to come from `i` on. -/
def rep {N : ℕ} (f : Fin N → BProg F → BProg F) : (n i : ℕ) → i + n = N → BProg F → BProg F
  | 0, _, _, k => k
  | n + 1, i, h, k => f ⟨i, by omega⟩ (rep f n (i + 1) (by omega) k)

/-! ## Rows, heads and counters at a symbolic index -/

theorem slot_inb (k : ℕ) (hk : k < 16) : ∀ a, (![k] : Fin 1 → ℕ) a + S1.size a ≤ S16.size a := by
  intro a; fin_cases a; show k + 1 ≤ 16; omega

theorem head64_inb (i : ℕ) (hi : i < 16) : ∀ a, (![i, 0, 0] : Fin 3 → ℕ) a + S1x512x64.size a ≤ S16x512x64.size a := by
  intro a; fin_cases a
  · show i + 1 ≤ 16; omega
  · exact Nat.le_refl _
  · exact Nat.le_refl _

theorem head65_inb (i : ℕ) (hi : i < 16) : ∀ a, (![i, 0, 0] : Fin 3 → ℕ) a + S1x512x65.size a ≤ S16x512x65.size a := by
  intro a; fin_cases a
  · show i + 1 ≤ 16; omega
  · exact Nat.le_refl _
  · exact Nat.le_refl _

/-- Where head `i` of the rows that come over y begins on device `d`, as the kernel computes it. -/
def offMy (d : Dev nD) (i : ℕ) : Fin 3 → ℕ :=
  ![i, (Scalar.indexCast (Scalar.muli (Scalar.remsi (Scalar.divsi (Dev.word d) 4#32) 2#32) 256#32)).toNat, 0]

/-- Where head `i` of the rows that come over x begins. -/
def offOt (d : Dev nD) (i : ℕ) : Fin 3 → ℕ :=
  ![i, (Scalar.indexCast (Scalar.muli (Scalar.subi 1#32 (Scalar.remsi (Scalar.divsi (Dev.word d) 4#32) 2#32)) 256#32)).toNat, 0]

/-- The first row of the half a device gets over y, and of the half it gets over x. -/
def myRow (d : Dev nD) : ℕ := 256 * (d.val / 4)
def otRow (d : Dev nD) : ℕ := 256 * (1 - d.val / 4)

theorem myRow_le (d : Dev nD) : myRow d + 256 ≤ 512 := by revert d; decide
theorem otRow_le (d : Dev nD) : otRow d + 256 ≤ 512 := by revert d; decide

theorem offMy_row (d : Dev nD) : (Scalar.indexCast (Scalar.muli (Scalar.remsi (Scalar.divsi (Dev.word d) 4#32) 2#32) 256#32)).toNat = myRow d := by
  revert d; decide
theorem offOt_row (d : Dev nD) : (Scalar.indexCast (Scalar.muli (Scalar.subi 1#32 (Scalar.remsi (Scalar.divsi (Dev.word d) 4#32) 2#32)) 256#32)).toNat = otRow d := by
  revert d; decide

theorem offMy_eq (d : Dev nD) (i : ℕ) : offMy d i = ![i, myRow d, 0] := by unfold offMy; rw [offMy_row]
theorem offOt_eq (d : Dev nD) (i : ℕ) : offOt d i = ![i, otRow d, 0] := by unfold offOt; rw [offOt_row]

theorem rows64_inb (i r : ℕ) (hi : i < 16) (hr : r + 256 ≤ 512) : ∀ a, (![i, r, 0] : Fin 3 → ℕ) a + S1x256x64.size a ≤ S16x512x64.size a := by
  intro a; fin_cases a
  · show i + 1 ≤ 16; omega
  · exact hr
  · exact Nat.le_refl _
theorem rows65_inb (i r : ℕ) (hi : i < 16) (hr : r + 256 ≤ 512) : ∀ a, (![i, r, 0] : Fin 3 → ℕ) a + S1x256x65.size a ≤ S16x512x65.size a := by
  intro a; fin_cases a
  · show i + 1 ≤ 16; omega
  · exact hr
  · exact Nat.le_refl _

theorem offMy64_inb (d : Dev nD) (i : ℕ) (hi : i < 16) : ∀ a, offMy d i a + S1x256x64.size a ≤ S16x512x64.size a := by
  rw [offMy_eq]; exact rows64_inb i _ hi (myRow_le d)
theorem offMy65_inb (d : Dev nD) (i : ℕ) (hi : i < 16) : ∀ a, offMy d i a + S1x256x65.size a ≤ S16x512x65.size a := by
  rw [offMy_eq]; exact rows65_inb i _ hi (myRow_le d)
theorem offOt64_inb (d : Dev nD) (i : ℕ) (hi : i < 16) : ∀ a, offOt d i a + S1x256x64.size a ≤ S16x512x64.size a := by
  rw [offOt_eq]; exact rows64_inb i _ hi (otRow_le d)
theorem offOt65_inb (d : Dev nD) (i : ℕ) (hi : i < 16) : ∀ a, offOt d i a + S1x256x65.size a ≤ S16x512x65.size a := by
  rw [offOt_eq]; exact rows65_inb i _ hi (otRow_le d)

/-- Counter `k` of an array of sixteen. -/
def semAt (A : DmaSems sig S16) (k : ℕ) (hk : k < 16) : DmaSem sig :=
  ((A.slice (Rect.unit (s := S16) ![k] S1.size (slot_inb k hk))).squeeze S_ squeezes_S1_S_).sem

/-- Chunk `j` of a device's half of the keys, as a rectangle; of the values; and of the other half. -/
abbrev rk (d : Dev nD) (j : Fin 8) : Rect S16x512x64 :=
  Rect.unit (s := S16x512x64) (k0_off1 d (BitVec.ofNat 32 (32 * j.val))) S16x32x64.size (k0_off1_inb d j)
abbrev rv (d : Dev nD) (j : Fin 8) : Rect S16x512x65 :=
  Rect.unit (s := S16x512x65) (k0_off2 d (BitVec.ofNat 32 (32 * j.val))) S16x32x65.size (k0_off2_inb d j)
abbrev rko (d : Dev nD) (j : Fin 8) : Rect S16x512x64 :=
  Rect.unit (s := S16x512x64) (k0_off35 d (BitVec.ofNat 32 (32 * j.val))) S16x32x64.size (k0_off35_inb d j)
abbrev rvo (d : Dev nD) (j : Fin 8) : Rect S16x512x65 :=
  Rect.unit (s := S16x512x65) (k0_off36 d (BitVec.ofNat 32 (32 * j.val))) S16x32x65.size (k0_off36_inb d j)

/-- One head of a 64-wide or a 65-wide array, and its 256 rows of either half. -/
abbrev rh64 (i : Fin 16) : Rect S16x512x64 := Rect.unit (s := S16x512x64) ![i.val, 0, 0] S1x512x64.size (head64_inb i.val i.isLt)
abbrev rh65 (i : Fin 16) : Rect S16x512x65 := Rect.unit (s := S16x512x65) ![i.val, 0, 0] S1x512x65.size (head65_inb i.val i.isLt)
abbrev rm64 (d : Dev nD) (i : Fin 16) : Rect S16x512x64 := Rect.unit (s := S16x512x64) (offMy d i.val) S1x256x64.size (offMy64_inb d i.val i.isLt)
abbrev rm65 (d : Dev nD) (i : Fin 16) : Rect S16x512x65 := Rect.unit (s := S16x512x65) (offMy d i.val) S1x256x65.size (offMy65_inb d i.val i.isLt)
abbrev ro64 (d : Dev nD) (i : Fin 16) : Rect S16x512x64 := Rect.unit (s := S16x512x64) (offOt d i.val) S1x256x64.size (offOt64_inb d i.val i.isLt)
abbrev ro65 (d : Dev nD) (i : Fin 16) : Rect S16x512x65 := Rect.unit (s := S16x512x65) (offOt d i.val) S1x256x65.size (offOt65_inb d i.val i.isLt)

/-- The partner over y, and over x, as the kernel computes it. -/
abbrev yDev (d : Dev nD) : Dev nD := ⟨k0_dev3 d, k0_dev3_lt d⟩
abbrev xDev (d : Dev nD) : Dev nD := ⟨k0_dev19 d, k0_dev19_lt d⟩

/-! ## What a head computes -/

/-- The local part: exponentials of the scores, rounded, times the values with their column of ones. -/
def locVal (k : Vec F S1x512x64 .bf16) (v : Vec F S1x512x65 .bf16) (q : Vec F S1x512x64 .bf16) : FVec F S1x512x65 .f32 :=
  k0_pay4 k v q
/-- The part of 256 rows added to what is there. -/
def midVal (k : Vec F S1x256x64 .bf16) (v : Vec F S1x256x65 .bf16) (q : Vec F S1x512x64 .bf16) (o : Vec F S1x512x65 .f32) : FVec F S1x512x65 .f32 :=
  k0_pay30 k v q o
/-- The last part added, and the sums divided by the sums of the exponentials. -/
def finVal (k : Vec F S1x256x64 .bf16) (v : Vec F S1x256x65 .bf16) (q : Vec F S1x512x64 .bf16) (o : Vec F S1x512x65 .f32) : FVec F S1x512x64 .f32 :=
  k0_pay85 k v q o

/-! ## The pieces -/

section Pieces

variable (arg0 : Memref sig .tc .vmem S16x512x64 .bf16)
  (arg1 : Memref sig .tc .vmem S16x512x64 .bf16) (harg1 : arg1.IsWhole)
  (arg2 : Memref sig .tc .vmem S16x512x65 .bf16) (harg2 : arg2.IsWhole)
  (arg3 : Memref sig .tc .vmem S16x512x64 .f32)
  (arg4 : Memref sig .tc .vmem S16x512x64 .bf16) (harg4 : arg4.IsWhole)
  (arg5 : Memref sig .tc .vmem S16x512x65 .bf16) (harg5 : arg5.IsWhole)
  (arg6 : Memref sig .tc .vmem S16x512x65 .f32)
  (arg7 arg8 arg9 arg10 : DmaSems sig S16)

/-- Chunk `j` of the local keys and values, sent over y. -/
def ySend (d : Dev nD) (j : Fin 8) (k : BProg F) : BProg F :=
  .op (.enqueueDma (arg1.slice (rk d j) (fun _ => rfl)) (.remote (Dev.tc (yDev d)) (arg4.slice (rk d j) (fun _ => rfl)) (.dma (semAt arg7 (2 * j.val) (by omega)))) (.dma (semAt arg9 (2 * j.val) (by omega)))
      (harg1.wordExact_slice rfl _ (k0_off1_wordsbf16 d j)) (harg4.wordExact_slice rfl _ (k0_off1_wordsbf16 d j)) ⟨⟨rfl, Or.inl rfl⟩, trivial⟩) fun _ =>
  .op (.enqueueDma (arg2.slice (rv d j) (fun _ => rfl)) (.remote (Dev.tc (yDev d)) (arg5.slice (rv d j) (fun _ => rfl)) (.dma (semAt arg7 (2 * j.val + 1) (by omega)))) (.dma (semAt arg9 (2 * j.val + 1) (by omega)))
      (harg2.wordExact_slice rfl _ (k0_off2_wordsbf16 d j)) (harg5.wordExact_slice rfl _ (k0_off2_wordsbf16 d j)) ⟨⟨rfl, Or.inl rfl⟩, trivial⟩) fun _ => k

/-- The two waits for chunk `j` from the y partner. -/
def yWait (d : Dev nD) (j : Fin 8) (k : BProg F) : BProg F :=
  .op (.waitDma2 (semAt arg9 (2 * j.val) (by omega)) (arg1.slice (rk d j) (fun _ => rfl)) (arg4.slice (rk d j) (fun _ => rfl))
      (harg1.wordExact_slice rfl _ (k0_off1_wordsbf16 d j)) (harg4.wordExact_slice rfl _ (k0_off1_wordsbf16 d j))) fun _ =>
  .op (.waitDma2 (semAt arg9 (2 * j.val + 1) (by omega)) (arg2.slice (rv d j) (fun _ => rfl)) (arg5.slice (rv d j) (fun _ => rfl))
      (harg2.wordExact_slice rfl _ (k0_off2_wordsbf16 d j)) (harg5.wordExact_slice rfl _ (k0_off2_wordsbf16 d j))) fun _ => k

/-- Chunk `j` as it came, sent on over x. -/
def xSend (d : Dev nD) (j : Fin 8) (k : BProg F) : BProg F :=
  .op (.enqueueDma (arg4.slice (rk d j) (fun _ => rfl)) (.remote (Dev.tc (xDev d)) (arg4.slice (rk d j) (fun _ => rfl)) (.dma (semAt arg8 (2 * j.val) (by omega)))) (.dma (semAt arg10 (2 * j.val) (by omega)))
      (harg4.wordExact_slice rfl _ (k0_off1_wordsbf16 d j)) (harg4.wordExact_slice rfl _ (k0_off1_wordsbf16 d j)) ⟨⟨rfl, Or.inl rfl⟩, trivial⟩) fun _ =>
  .op (.enqueueDma (arg5.slice (rv d j) (fun _ => rfl)) (.remote (Dev.tc (xDev d)) (arg5.slice (rv d j) (fun _ => rfl)) (.dma (semAt arg8 (2 * j.val + 1) (by omega)))) (.dma (semAt arg10 (2 * j.val + 1) (by omega)))
      (harg5.wordExact_slice rfl _ (k0_off2_wordsbf16 d j)) (harg5.wordExact_slice rfl _ (k0_off2_wordsbf16 d j)) ⟨⟨rfl, Or.inl rfl⟩, trivial⟩) fun _ => k

/-- Head `i` against the local keys. -/
def locHead (i : Fin 16) (k : BProg F) : BProg F :=
  .op (.load arg1 (rh64 i).toLoadRect (View.loadsAt_vmem h_S1x512x64)) fun kk =>
  .op (.load arg2 (rh65 i).toLoadRect (View.loadsAt_vmem h_S1x512x65)) fun vv =>
  .op (.load arg0 (rh64 i).toLoadRect (View.loadsAt_vmem h_S1x512x64)) fun q =>
  .op (.load arg6 (rh65 i).toLoadRect (View.loadsAt_vmem h_S1x512x65)) fun _ =>
  .op (.store arg6 (rh65 i) (locVal kk vv q) Finset.univ (View.stores_vmem_bits_univ h_S1x512x65 rfl) (.inl rfl)) fun _ => k

/-- What is done at chunk `j`: wait for it, send it on, two heads against the local keys. -/
def mid (d : Dev nD) (j : Fin 8) (k : BProg F) : BProg F :=
  yWait arg1 harg1 arg2 harg2 arg4 harg4 arg5 harg5 arg9 d j <|
  xSend arg4 harg4 arg5 harg5 arg8 arg10 d j <|
  locHead arg0 arg1 arg2 arg6 ⟨2 * j.val, by omega⟩ <|
  locHead arg0 arg1 arg2 arg6 ⟨2 * j.val + 1, by omega⟩ k

/-- Head `i` against the keys that came over y. -/
def mineHead (d : Dev nD) (i : Fin 16) (k : BProg F) : BProg F :=
  .op (.load arg4 (rm64 d i).toLoadRect (View.loadsAt_vmem h_S1x256x64)) fun kk =>
  .op (.load arg5 (rm65 d i).toLoadRect (View.loadsAt_vmem h_S1x256x65)) fun vv =>
  .op (.load arg0 (rh64 i).toLoadRect (View.loadsAt_vmem h_S1x512x64)) fun q =>
  .op (.load arg6 (rh65 i).toLoadRect (View.loadsAt_vmem h_S1x512x65)) fun o =>
  .op (.load arg6 (rh65 i).toLoadRect (View.loadsAt_vmem h_S1x512x65)) fun _ =>
  .op (.store arg6 (rh65 i) (midVal kk vv q o) Finset.univ (View.stores_vmem_bits_univ h_S1x512x65 rfl) (.inl rfl)) fun _ => k

/-- The two waits for chunk `j` from the x partner. -/
def xWait (d : Dev nD) (j : Fin 8) (k : BProg F) : BProg F :=
  .op (.waitDma2 (semAt arg10 (2 * j.val) (by omega)) (arg4.slice (rko d j) (fun _ => rfl)) (arg4.slice (rko d j) (fun _ => rfl))
      (harg4.wordExact_slice rfl _ (k0_off35_wordsbf16 d j)) (harg4.wordExact_slice rfl _ (k0_off35_wordsbf16 d j))) fun _ =>
  .op (.waitDma2 (semAt arg10 (2 * j.val + 1) (by omega)) (arg5.slice (rvo d j) (fun _ => rfl)) (arg5.slice (rvo d j) (fun _ => rfl))
      (harg5.wordExact_slice rfl _ (k0_off36_wordsbf16 d j)) (harg5.wordExact_slice rfl _ (k0_off36_wordsbf16 d j))) fun _ => k

/-- Head `i` against the keys that came over x, and its result. -/
def otherHead (d : Dev nD) (i : Fin 16) (k : BProg F) : BProg F :=
  .op (.load arg4 (ro64 d i).toLoadRect (View.loadsAt_vmem h_S1x256x64)) fun kk =>
  .op (.load arg5 (ro65 d i).toLoadRect (View.loadsAt_vmem h_S1x256x65)) fun vv =>
  .op (.load arg0 (rh64 i).toLoadRect (View.loadsAt_vmem h_S1x512x64)) fun q =>
  .op (.load arg6 (rh65 i).toLoadRect (View.loadsAt_vmem h_S1x512x65)) fun o =>
  .op (.load arg3 (rh64 i).toLoadRect (View.loadsAt_vmem h_S1x512x64)) fun _ =>
  .op (.store arg3 (rh64 i) (finVal kk vv q o) Finset.univ (View.stores_vmem_bits_univ h_S1x512x64 rfl) (.inl rfl)) fun _ => k

/-- The waits for the sends of chunk `j`. -/
def sWait (d : Dev nD) (j : Fin 8) (k : BProg F) : BProg F :=
  .op (.waitDma2 (semAt arg7 (2 * j.val) (by omega)) (arg4.slice (rk d j) (fun _ => rfl)) (arg1.slice (rk d j) (fun _ => rfl))
      (harg4.wordExact_slice rfl _ (k0_off1_wordsbf16 d j)) (harg1.wordExact_slice rfl _ (k0_off1_wordsbf16 d j))) fun _ =>
  .op (.waitDma2 (semAt arg7 (2 * j.val + 1) (by omega)) (arg5.slice (rv d j) (fun _ => rfl)) (arg2.slice (rv d j) (fun _ => rfl))
      (harg5.wordExact_slice rfl _ (k0_off2_wordsbf16 d j)) (harg2.wordExact_slice rfl _ (k0_off2_wordsbf16 d j))) fun _ =>
  .op (.waitDma2 (semAt arg8 (2 * j.val) (by omega)) (arg4.slice (rk d j) (fun _ => rfl)) (arg4.slice (rk d j) (fun _ => rfl))
      (harg4.wordExact_slice rfl _ (k0_off1_wordsbf16 d j)) (harg4.wordExact_slice rfl _ (k0_off1_wordsbf16 d j))) fun _ =>
  .op (.waitDma2 (semAt arg8 (2 * j.val + 1) (by omega)) (arg5.slice (rv d j) (fun _ => rfl)) (arg5.slice (rv d j) (fun _ => rfl))
      (harg5.wordExact_slice rfl _ (k0_off2_wordsbf16 d j)) (harg5.wordExact_slice rfl _ (k0_off2_wordsbf16 d j))) fun _ => k

/-- The barrier: a unit to each partner, and two awaited. -/
def barrier (d : Dev nD) (k : BProg F) : BProg F :=
  semSignalWord (⟨k0_dev1 d, k0_dev1_lt d⟩ : Dev nD) barrier0 1#32 >>= fun _ =>
  semSignalWord (⟨k0_dev2 d, k0_dev2_lt d⟩ : Dev nD) barrier0 1#32 >>= fun _ =>
  semWaitWord barrier0 2#32 >>= fun _ => k

/-- The body in loops. -/
def body : BProg F :=
  .op .deviceId fun d =>
  barrier d <|
  rep (ySend arg1 harg1 arg2 harg2 arg4 harg4 arg5 harg5 arg7 arg9 d) 8 0 rfl <|
  rep (mid arg0 arg1 harg1 arg2 harg2 arg4 harg4 arg5 harg5 arg6 arg8 arg9 arg10 d) 8 0 rfl <|
  rep (mineHead arg0 arg4 arg5 arg6 d) 16 0 rfl <|
  rep (xWait arg4 harg4 arg5 harg5 arg10 d) 8 0 rfl <|
  rep (otherHead arg0 arg3 arg4 arg5 arg6 d) 16 0 rfl <|
  rep (sWait arg1 harg1 arg2 harg2 arg4 harg4 arg5 harg5 arg7 arg8 d) 8 0 rfl <|
  .ret ⟨⟩

end Pieces

end Cert.KernelIdeal.Attn

end
-- ==== Proof.Rows.lean ====
/- Sets of rows of the arrays: a chunk, a half, a head, and how they make up one another. -/
module

public import proofs.«01_k».proof.Proof.Prog

@[expose] public section

noncomputable section

namespace Cert.KernelIdeal.Attn

open Idealize.ShloMosaic Idealize.SL.Sem
open Cert.KernelIdeal.Gen

/-- The elements of an array of 16 heads, 512 rows and `n` columns whose row is among the `len` from `lo` on. -/
def rows (n lo len : ℕ) : Finset (Shape.Idx ⟨3, ![16, 512, n]⟩) :=
  Finset.univ.filter fun i => lo ≤ (i 1).val ∧ (i 1).val < lo + len

/-- The elements of head `h`. -/
def hd (n : ℕ) (h : ℕ) : Finset (Shape.Idx ⟨3, ![16, 512, n]⟩) := Finset.univ.filter fun i => (i 0).val = h

theorem mem_rows {n lo len : ℕ} {i : Shape.Idx ⟨3, ![16, 512, n]⟩} :
    i ∈ rows n lo len ↔ lo ≤ (i 1).val ∧ (i 1).val < lo + len := by simp [rows]

theorem mem_hd {n h : ℕ} {i : Shape.Idx ⟨3, ![16, 512, n]⟩} : i ∈ hd n h ↔ (i 0).val = h := by simp [hd]

/-- The first row of the half `b` of device `d`: the one it gets over y, or over x. -/
def halfRow (d : Dev nD) (b : Bool) : ℕ := if b then otRow d else myRow d

theorem halfRow_cases (d : Dev nD) : (myRow d = 0 ∧ otRow d = 256) ∨ (myRow d = 256 ∧ otRow d = 0) := by revert d; decide

theorem rows_disjoint {n lo lo' len len' : ℕ} (h : lo + len ≤ lo' ∨ lo' + len' ≤ lo) : Disjoint (rows n lo len) (rows n lo' len') := by
  rw [Finset.disjoint_left]; intro i hi hi'
  rw [mem_rows] at hi hi'; omega

/-- The eight chunks of a half are apart, and make it up. -/
theorem chunks_disjoint (n lo : ℕ) (j j' : Fin 8) (h : j ≠ j') : Disjoint (rows n (lo + 32 * j.val) 32) (rows n (lo + 32 * j'.val) 32) := by
  refine rows_disjoint ?_
  have : j.val ≠ j'.val := fun e => h (Fin.ext e)
  omega

theorem chunks_union (n lo : ℕ) : (Finset.univ.biUnion fun j : Fin 8 => rows n (lo + 32 * j.val) 32) = rows n lo 256 := by
  ext i
  simp only [Finset.mem_biUnion, Finset.mem_univ, true_and, mem_rows]
  constructor
  · rintro ⟨j, h1, h2⟩; have := j.isLt; omega
  · rintro ⟨h1, h2⟩
    refine ⟨⟨((i 1).val - lo) / 32, by omega⟩, ?_, ?_⟩ <;> simp only <;> omega

/-- The two halves are apart, and make up the whole. -/
theorem halves_disjoint (n : ℕ) (d : Dev nD) : Disjoint (rows n (myRow d) 256) (rows n (otRow d) 256) :=
  rows_disjoint (by rcases halfRow_cases d with h | h <;> omega)

theorem halves_union (n : ℕ) (d : Dev nD) : rows n (myRow d) 256 ∪ rows n (otRow d) 256 = Finset.univ := by
  ext i
  simp only [Finset.mem_union, mem_rows, Finset.mem_univ, iff_true]
  have h1 : (i 1).val < 512 := (i 1).isLt
  rcases halfRow_cases d with h | h <;> omega

theorem off1_eq (d : Dev nD) (j : Fin 8) : k0_off1 d (BitVec.ofNat 32 (32 * j.val)) = ![0, myRow d + 32 * j.val, 0] := by
  revert d j; decide
theorem off2_eq (d : Dev nD) (j : Fin 8) : k0_off2 d (BitVec.ofNat 32 (32 * j.val)) = ![0, myRow d + 32 * j.val, 0] := by
  revert d j; decide
theorem off35_eq (d : Dev nD) (j : Fin 8) : k0_off35 d (BitVec.ofNat 32 (32 * j.val)) = ![0, otRow d + 32 * j.val, 0] := by
  revert d j; decide
theorem off36_eq (d : Dev nD) (j : Fin 8) : k0_off36 d (BitVec.ofNat 32 (32 * j.val)) = ![0, otRow d + 32 * j.val, 0] := by
  revert d j; decide

/-- A rectangle of all heads, 32 rows and all columns is the set of its rows. -/
theorem chunk_set {n : ℕ} {off : Fin 3 → ℕ} {lo : ℕ} (ho : off = ![0, lo, 0]) (inb) :
    (Rect.unit (s := ⟨3, ![16, 512, n]⟩) off ![16, 32, n] inb).set = rows n lo 32 := by
  subst ho
  ext i
  rw [Rect.mem_set_unit, mem_rows]
  constructor
  · intro h; exact h 1
  · intro h a
    fin_cases a
    · exact ⟨Nat.zero_le _, by have := (i 0).isLt; simpa using this⟩
    · exact h
    · exact ⟨Nat.zero_le _, by have := (i 2).isLt; simpa using this⟩

theorem rk_set (d : Dev nD) (j : Fin 8) : (rk d j).set = rows 64 (myRow d + 32 * j.val) 32 := chunk_set (off1_eq d j) _
theorem rv_set (d : Dev nD) (j : Fin 8) : (rv d j).set = rows 65 (myRow d + 32 * j.val) 32 := chunk_set (off2_eq d j) _
theorem rko_set (d : Dev nD) (j : Fin 8) : (rko d j).set = rows 64 (otRow d + 32 * j.val) 32 := chunk_set (off35_eq d j) _
theorem rvo_set (d : Dev nD) (j : Fin 8) : (rvo d j).set = rows 65 (otRow d + 32 * j.val) 32 := chunk_set (off36_eq d j) _

/-- The rows of a head lie among the rows. -/
theorem head_rows_sub {n : ℕ} {off : Fin 3 → ℕ} {h lo len : ℕ} (ho : off = ![h, lo, 0]) (inb) :
    (Rect.unit (s := ⟨3, ![16, 512, n]⟩) off ![1, len, n] inb).set ⊆ rows n lo len := by
  subst ho
  intro i hi
  rw [Rect.mem_set_unit] at hi
  rw [mem_rows]; exact hi 1

theorem rm64_sub (d : Dev nD) (i : Fin 16) : (rm64 d i).set ⊆ rows 64 (myRow d) 256 := head_rows_sub (offMy_eq d i) _
theorem rm65_sub (d : Dev nD) (i : Fin 16) : (rm65 d i).set ⊆ rows 65 (myRow d) 256 := head_rows_sub (offMy_eq d i) _
theorem ro64_sub (d : Dev nD) (i : Fin 16) : (ro64 d i).set ⊆ rows 64 (otRow d) 256 := head_rows_sub (offOt_eq d i) _
theorem ro65_sub (d : Dev nD) (i : Fin 16) : (ro65 d i).set ⊆ rows 65 (otRow d) 256 := head_rows_sub (offOt_eq d i) _

/-- A whole head, as a rectangle, is the set of the elements of that head. -/
theorem head_set {n : ℕ} (h : ℕ) (inb) :
    (Rect.unit (s := ⟨3, ![16, 512, n]⟩) ![h, 0, 0] ![1, 512, n] inb).set = hd n h := by
  ext i
  rw [Rect.mem_set_unit, mem_hd]
  constructor
  · intro hi
    have h0 : h ≤ (i 0).val ∧ (i 0).val < h + 1 := hi 0
    omega
  · intro hi a
    fin_cases a
    · show h ≤ (i 0).val ∧ (i 0).val < h + 1; omega
    · exact ⟨Nat.zero_le _, by have := (i 1).isLt; simpa using this⟩
    · exact ⟨Nat.zero_le _, by have := (i 2).isLt; simpa using this⟩

theorem rh64_set (i : Fin 16) : (rh64 i).set = hd 64 i.val := head_set _ _
theorem rh65_set (i : Fin 16) : (rh65 i).set = hd 65 i.val := head_set _ _

/-! ## Partners -/

/-- The partner over y, and over x. -/
def yp (d : Dev nD) : Dev nD := yDev d
def xp (d : Dev nD) : Dev nD := xDev d

theorem yp_yp (d : Dev nD) : yp (yp d) = d := by revert d; decide
theorem xp_xp (d : Dev nD) : xp (xp d) = d := by revert d; decide
theorem dev1_eq (d : Dev nD) : (⟨k0_dev1 d, k0_dev1_lt d⟩ : Dev nD) = yp d := by revert d; decide
theorem dev2_eq (d : Dev nD) : (⟨k0_dev2 d, k0_dev2_lt d⟩ : Dev nD) = xp d := by revert d; decide
theorem myRow_yp (d : Dev nD) : myRow (yp d) = myRow d := by revert d; decide
theorem otRow_xp (d : Dev nD) : otRow (xp d) = myRow d := by revert d; decide
theorem myRow_xp (d : Dev nD) : myRow (xp d) = otRow d := by revert d; decide
theorem yp_ne_xp (d : Dev nD) : yp d ≠ xp d := by revert d; decide

/-- The partner over y (`false`) or over x (`true`). -/
def nb (b : Bool) (d : Dev nD) : Dev nD := if b then xp d else yp d
theorem nb_nb (b : Bool) (d : Dev nD) : nb b (nb b d) = d := by revert b d; decide

end Cert.KernelIdeal.Attn

end
-- ==== Proof.Sched.lean ====
/- The protocol: who waits for what, who pays it, and what each payment hands over, with contents. -/
module

public import proofs.«01_k».proof.Proof.Rows
public import Idealize.ShloMosaic.Lib.Pipeline.Regions
public import Idealize.ShloMosaic.Lib.Pipeline.Kit
public import Idealize.ShloMosaic.Lib.Rounds
public import Idealize.ShloMosaic.Lib.Ring
public import Idealize.ShloMosaic.Lib.Tactic
public import Idealize.ShloMosaic.Lib.Pipeline.RegionTalk
public import Idealize.ShloMosaic.Harness.Basic

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The pipeline's copy of the rounds, and the protocol's, whose duties are numbered by a Boolean. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Counters -/

/-- Counter `j` of family `f` (sent over y, sent over x, received over y, received over x) for the keys (`false`)
    or the values (`true`). -/
def fs (f : Fin 4) (j : Fin 8) (b : Bool) : DmaSem sig :=
  ⟨4 + 16 * f.val + 2 * j.val + b.toNat, by have := f.isLt; have := j.isLt; cases b <;> (show _ < 68) <;> simp <;> omega⟩

/-- Which of them a counter is, if any. -/
def dec (s : DmaSem sig) : Option (Fin 4 × Fin 8 × Bool) :=
  if h : 4 ≤ s.val then
    some (⟨(s.val - 4) / 16, by have : s.val < 68 := s.isLt; omega⟩, ⟨(s.val - 4) % 16 / 2, by omega⟩, (s.val - 4) % 2 == 1)
  else none

theorem dec_fs (f : Fin 4) (j : Fin 8) (b : Bool) : dec (fs f j b) = some (f, j, b) := by revert f j b; decide
theorem fs_inj : Function.Injective fun p : Fin 4 × Fin 8 × Bool => fs p.1 p.2.1 p.2.2 := fun p q h => by
  have := congrArg dec h
  simp only [dec_fs] at this
  exact Option.some.inj this

theorem sem7K (j : Fin 8) : semAt cc0_scratch3 (2 * j.val) (by omega) = fs 0 j false := by revert j; decide
theorem sem7V (j : Fin 8) : semAt cc0_scratch3 (2 * j.val + 1) (by omega) = fs 0 j true := by revert j; decide
theorem sem8K (j : Fin 8) : semAt cc0_scratch4 (2 * j.val) (by omega) = fs 1 j false := by revert j; decide
theorem sem8V (j : Fin 8) : semAt cc0_scratch4 (2 * j.val + 1) (by omega) = fs 1 j true := by revert j; decide
theorem sem9K (j : Fin 8) : semAt cc0_scratch5 (2 * j.val) (by omega) = fs 2 j false := by revert j; decide
theorem sem9V (j : Fin 8) : semAt cc0_scratch5 (2 * j.val + 1) (by omega) = fs 2 j true := by revert j; decide
theorem sem10K (j : Fin 8) : semAt cc0_scratch6 (2 * j.val) (by omega) = fs 3 j false := by revert j; decide
theorem sem10V (j : Fin 8) : semAt cc0_scratch6 (2 * j.val + 1) (by omega) = fs 3 j true := by revert j; decide

/-- The barrier's cell, and the cell of a transfer counter. -/
abbrev bar (c : Dev nD) : GSem nD τ sig := ((c : Thread nD τ), .reg barrier0)
abbrev cell (c : Dev nD) (f : Fin 4) (j : Fin 8) (b : Bool) : GSem nD τ sig := ((c : Thread nD τ), .dma (fs f j b))

/-- What one chunk's copy counts. -/
abbrev NK : ℕ := ((Memref.whole cc0_scratch0 : Memref sig .tc .vmem S16x512x64 .bf16).slice (rk 0 0) (fun _ => rfl)).view.dmaCredit
abbrev NV : ℕ := ((Memref.whole cc0_scratch1 : Memref sig .tc .vmem S16x512x65 .bf16).slice (rv 0 0) (fun _ => rfl)).view.dmaCredit
def Nb (b : Bool) : ℕ := if b then NV else NK
theorem NK_pos : 0 < NK := View.dmaCredit_pos _ (by decide)
theorem NV_pos : 0 < NV := View.dmaCredit_pos _ (by decide)
theorem Nb_pos (b : Bool) : 0 < Nb b := by cases b; exacts [NK_pos, NV_pos]

/-! ## Contents -/

abbrev B64 (F : FTy → Type) [FloatOps F] := S16x512x64.Idx → Elt F .bf16
abbrev B65 (F : FTy → Type) [FloatOps F] := S16x512x65.Idx → Elt F .bf16

/-- What each device's three arrays hold when the kernel is entered: scaled queries, keys, values with their ones. -/
structure Ins (F : FTy → Type) [FloatOps F] where
  q : Dev nD → B64 F
  k : Dev nD → B64 F
  v : Dev nD → B65 F

variable (D : Ins F)

/-- What the buffer of received keys holds in the end: the half over y from the y partner, the other half from the y
    partner of the x partner. -/
def KR (c : Dev nD) : B64 F := fun i => if i ∈ rows 64 (myRow c) 256 then D.k (yp c) i else D.k (yp (xp c)) i
def VR (c : Dev nD) : B65 F := fun i => if i ∈ rows 65 (myRow c) 256 then D.v (yp c) i else D.v (yp (xp c)) i

theorem KR_my (c : Dev nD) {lo len : ℕ} (h : myRow c ≤ lo) (h' : lo + len ≤ myRow c + 256) : ∀ i ∈ rows 64 lo len, KR D c i = D.k (yp c) i :=
  fun i hi => by rw [mem_rows] at hi; unfold KR; rw [if_pos (mem_rows.mpr (by omega))]
theorem VR_my (c : Dev nD) {lo len : ℕ} (h : myRow c ≤ lo) (h' : lo + len ≤ myRow c + 256) : ∀ i ∈ rows 65 lo len, VR D c i = D.v (yp c) i :=
  fun i hi => by rw [mem_rows] at hi; unfold VR; rw [if_pos (mem_rows.mpr (by omega))]
theorem KR_ot (c : Dev nD) {lo len : ℕ} (h : otRow c ≤ lo) (h' : lo + len ≤ otRow c + 256) : ∀ i ∈ rows 64 lo len, KR D c i = D.k (yp (xp c)) i :=
  fun i hi => by
    rw [mem_rows] at hi; unfold KR
    rw [if_neg (fun hm => by rw [mem_rows] at hm; rcases halfRow_cases c with hc | hc <;> omega)]
theorem VR_ot (c : Dev nD) {lo len : ℕ} (h : otRow c ≤ lo) (h' : lo + len ≤ otRow c + 256) : ∀ i ∈ rows 65 lo len, VR D c i = D.v (yp (xp c)) i :=
  fun i hi => by
    rw [mem_rows] at hi; unfold VR
    rw [if_neg (fun hm => by rw [mem_rows] at hm; rcases halfRow_cases c with hc | hc <;> omega)]

/-- What the x partner gets is what this device got over y. -/
theorem KR_x (c : Dev nD) {lo len : ℕ} (h : myRow c ≤ lo) (h' : lo + len ≤ myRow c + 256) : ∀ i ∈ rows 64 lo len, KR D (xp c) i = KR D c i :=
  fun i hi => by rw [KR_my D c h h' i hi, KR_ot D (xp c) (by rw [otRow_xp]; exact h) (by rw [otRow_xp]; exact h') i hi, xp_xp]
theorem VR_x (c : Dev nD) {lo len : ℕ} (h : myRow c ≤ lo) (h' : lo + len ≤ myRow c + 256) : ∀ i ∈ rows 65 lo len, VR D (xp c) i = VR D c i :=
  fun i hi => by rw [VR_my D c h h' i hi, VR_ot D (xp c) (by rw [otRow_xp]; exact h) (by rw [otRow_xp]; exact h') i hi, xp_xp]

/-! ## Holdings -/

abbrev lK (c : Dev nD) : Loc nD τ sig := (c : Thread nD τ).loc cc0_stg1_0
abbrev lV (c : Dev nD) : Loc nD τ sig := (c : Thread nD τ).loc cc0_stg2_0
abbrev lKr (c : Dev nD) : Loc nD τ sig := (c : Thread nD τ).loc cc0_scratch0
abbrev lVr (c : Dev nD) : Loc nD τ sig := (c : Thread nD τ).loc cc0_scratch1

/-- Rows of the local keys and values, and of the received ones, at a share. -/
abbrev pK (c : Dev nD) (lo len : ℕ) (q : PosShare TreeShare) (f : B64 F) : sProp 𝕄 := lK c ↦[rows 64 lo len]{q} f
abbrev pV (c : Dev nD) (lo len : ℕ) (q : PosShare TreeShare) (f : B65 F) : sProp 𝕄 := lV c ↦[rows 65 lo len]{q} f
abbrev pKr (c : Dev nD) (lo len : ℕ) (q : PosShare TreeShare) (f : B64 F) : sProp 𝕄 := lKr c ↦[rows 64 lo len]{q} f
abbrev pVr (c : Dev nD) (lo len : ℕ) (q : PosShare TreeShare) (f : B65 F) : sProp 𝕄 := lVr c ↦[rows 65 lo len]{q} f

abbrev qL : PosShare TreeShare := fullShare.left
abbrev qR : PosShare TreeShare := fullShare.right

/-! ## The schedule -/

/-- Paid to the barrier of `c` by a partner: the half of the partner's buffers that `c` will write, and that the counters
    `c`'s copies there credit are open. -/
def barPay (c : Dev nD) (b : Bool) : sProp 𝕄 :=
  iprop((∃ f, pKr (nb b c) (myRow c) 256 fullShare f) ∗ (∃ f, pVr (nb b c) (myRow c) 256 fullShare f)
    ∗ bigSep Finset.univ fun j : Fin 8 =>
      iprop(reached ER (cell (nb b c) (if b then 3 else 2) j false) 0 ∗ reached ER (cell (nb b c) (if b then 3 else 2) j true) 0))

/-- Paid to a transfer counter of `c`: a sent chunk's share back, or a chunk that came. -/
def dmaPay (c : Dev nD) : Fin 4 × Fin 8 × Bool → sProp 𝕄
  | (0, j, false) => pK c (myRow c + 32 * j.val) 32 qR (D.k c)
  | (0, j, true) => pV c (myRow c + 32 * j.val) 32 qR (D.v c)
  | (1, j, false) => pKr c (myRow c + 32 * j.val) 32 qR (KR D c)
  | (1, j, true) => pVr c (myRow c + 32 * j.val) 32 qR (VR D c)
  | (2, j, false) => pKr c (myRow c + 32 * j.val) 32 fullShare (KR D c)
  | (2, j, true) => pVr c (myRow c + 32 * j.val) 32 fullShare (VR D c)
  | (3, j, false) => pKr c (otRow c + 32 * j.val) 32 fullShare (KR D c)
  | (3, j, true) => pVr c (otRow c + 32 * j.val) 32 fullShare (VR D c)

/-- One round everywhere: two duties at a barrier, one at a transfer counter. -/
def Rd : Rounds.Schedule (GSem nD τ sig) Bool 𝕄 where
  duties g r :=
    if r = 0 ∧ g.1.2 = .tc then
      match g.2 with
      | .reg _ => {false, true}
      | .dma s => match dec s with
        | some _ => {false}
        | none => ∅
    else ∅
  unitless _ := False
  amount g _ _ :=
    match g.2 with
    | .reg _ => 1
    | .dma s => match dec s with
      | some p => Nb p.2.2
      | none => 1
  payload g _ d :=
    match g.2 with
    | .reg _ => barPay g.1.1 d
    | .dma s => match dec s with
      | some p => dmaPay D g.1.1 p
      | none => iprop(emp)
  amount_pos g _ _ _ := by
    split
    · exact Nat.one_pos
    · split
      · exact Nb_pos _
      · exact Nat.one_pos

instance dmaPay_storable (c : Dev nD) (p : Fin 4 × Fin 8 × Bool) : BI.Storable (upEmb : UEmb _ 𝕄) (dmaPay D c p) := by
  unfold dmaPay
  (repeat' split) <;> infer_instance

instance Rd_payload_storable (g : GSem nD τ sig) (r : ℕ) (d : Bool) : BI.Storable (upEmb : UEmb _ 𝕄) ((Rd D).payload g r d) := by
  dsimp only [Rd]
  unfold barPay
  (repeat' split) <;> infer_instance

section Tables

variable (c : Dev nD) (f : Fin 4) (j : Fin 8) (b d : Bool)

theorem duties_bar : (Rd D).duties (bar c) 0 = {false, true} := by
  dsimp only [Rd]; rw [if_pos ⟨rfl, rfl⟩]
theorem duties_cell : (Rd D).duties (cell c f j b) 0 = {false} := by
  dsimp only [Rd]; rw [if_pos ⟨rfl, rfl⟩]; simp only [dec_fs]
theorem duties_later (g : GSem nD τ sig) : ∀ r, 1 ≤ r → (Rd D).duties g r = ∅ := fun r hr => by
  dsimp only [Rd]; rw [if_neg (fun h => by omega)]
theorem amount_bar : (Rd D).amount (bar c) 0 d = 1 := rfl
theorem amount_cell : (Rd D).amount (cell c f j b) 0 d = Nb b := by
  dsimp only [Rd]; simp only [dec_fs]
theorem payload_bar : (Rd D).payload (bar c) 0 d = barPay c d := rfl
theorem payload_cell : (Rd D).payload (cell c f j b) 0 d = dmaPay D c (f, j, b) := by
  dsimp only [Rd]; simp only [dec_fs]
theorem expect_bar : (Rd D).expect (bar c) 0 = 2 := by
  unfold Schedule.expect Schedule.amountOf; rw [duties_bar]; rfl
theorem expect_cell : (Rd D).expect (cell c f j b) 0 = Nb b := by
  unfold Schedule.expect Schedule.amountOf; rw [duties_cell, Finset.sum_singleton, amount_cell]
theorem rest_bar : bigSep ((Rd D).duties (bar c) 0 \ ∅) (fun u => (Rd D).payload (bar c) 0 u) = iprop(barPay (F := F) c false ∗ barPay c true) := by
  rw [Finset.sdiff_empty, duties_bar, bigSep_insert (by decide), bigSep_singleton]; rfl
theorem rest_cell : bigSep ((Rd D).duties (cell c f j b) 0 \ ∅) (fun u => (Rd D).payload (cell c f j b) 0 u) = dmaPay D c (f, j, b) := by
  rw [Finset.sdiff_empty, duties_cell, bigSep_singleton, payload_cell]

end Tables

/-! ## What is owed, and the levels -/

/-- What `c` owes of the counters of family `f` of device `p` from chunk `i` on. -/
def rem (p : Dev nD) (f : Fin 4) (i : ℕ) : CellTallies nD τ sig Unit :=
  ∑ j ∈ Finset.univ.filter (fun j : Fin 8 => i ≤ j.val), (tallyAt (cell p f j true) () (Nb true) + tallyAt (cell p f j false) () (Nb false))

theorem rem_succ (p : Dev nD) (f : Fin 4) (j : Fin 8) :
    rem p f j.val = rem p f (j.val + 1) + tallyAt (cell p f j true) () (Nb true) + tallyAt (cell p f j false) () (Nb false) := by
  unfold rem
  rw [show (Finset.univ.filter fun x : Fin 8 => j.val ≤ x.val) = insert j (Finset.univ.filter fun x : Fin 8 => j.val + 1 ≤ x.val) from by
      ext x; simp only [Finset.mem_filter, Finset.mem_univ, true_and, Finset.mem_insert, Fin.ext_iff]; omega,
    Finset.sum_insert (by simp), add_comm, add_assoc]

theorem rem_end (p : Dev nD) (f : Fin 4) : rem p f 8 = 0 := by
  unfold rem
  rw [Finset.sum_eq_zero]
  intro x hx; simp at hx; omega

theorem tally_pos {g g' : GSem nD τ sig} {k : ℕ} {u : Unit} (h : 0 < (tallyAt g () k : CellTallies nD τ sig Unit) g' u) : g' = g := by
  rw [tallyAt_apply] at h
  split at h
  · next hg => exact hg.1
  · exact absurd h (Nat.lt_irrefl 0)

theorem add_pos_cases {T T' : CellTallies nD τ sig Unit} {g : GSem nD τ sig} {u : Unit} (h : 0 < (T + T') g u) : 0 < T g u ∨ 0 < T' g u := by
  rw [Pi.add_apply, Finsupp.add_apply] at h; omega

theorem rem_pos {p : Dev nD} {f : Fin 4} {i : ℕ} {g : GSem nD τ sig} {u : Unit} (h : 0 < rem p f i g u) : ∃ j b, g = cell p f j b := by
  unfold rem at h
  rw [Finset.sum_apply, Finsupp.finset_sum_apply] at h
  obtain ⟨j, -, hj⟩ := Finset.exists_ne_zero_of_sum_ne_zero (Nat.pos_iff_ne_zero.mp h)
  rcases add_pos_cases (Nat.pos_iff_ne_zero.mpr hj) with h | h
  · exact ⟨j, true, tally_pos h⟩
  · exact ⟨j, false, tally_pos h⟩

/-- What `c` owes at launch: a unit to the barrier of each partner, and the two credits of every chunk it will send. -/
def O₀ (c : Dev nD) : CellTallies nD τ sig Unit :=
  rem (xp c) 3 0 + rem (yp c) 2 0 + tallyAt (bar (xp c)) () 1 + tallyAt (bar (yp c)) () 1

def L (g : GSem nD τ sig) : Finset Unit := if g.1.2 = .tc then {()} else ∅
/-- Barriers at 1, counters of chunks over y at 2, over x at 3, all else at 0. -/
def lv (g : GSem nD τ sig) (_ : Unit) : ℕ :=
  match g.2 with
  | .reg _ => 1
  | .dma s => match dec s with
    | some (2, _, _) => 2
    | some (3, _, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (bar c) u = 1 := rfl
def flv (f : Fin 4) : ℕ := if f = 2 then 2 else if f = 3 then 3 else 0
theorem lv_cell (c : Dev nD) (f : Fin 4) (j : Fin 8) (b : Bool) (u : Unit) : lv (cell c f j b) u = flv f := by
  unfold lv; dsimp only; rw [dec_fs]
  fin_cases f <;> rfl

/-- A wait is allowed at a level below all that is owed. -/
theorem mayWait (c : Dev nD) (sm : SemLoc sig) (n : ℕ) (hn : lv ((c : Thread nD τ), sm) () ≤ n) (O : CellTallies nD τ sig Unit)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

theorem rem_lev {p : Dev nD} {f : Fin 4} {i n : ℕ} (hf : n < flv f) (g : GSem nD τ sig) (u : Unit) (h : 0 < rem p f i g u) :
    g.1.2 = .tc ∧ n < lv g u := by
  obtain ⟨j, b, rfl⟩ := rem_pos h
  exact ⟨rfl, by rw [lv_cell]; exact hf⟩

theorem O₀_lev (c : Dev nD) (g : GSem nD τ sig) (u : Unit) (h : 0 < O₀ c g u) : g.1.2 = .tc ∧ 0 < lv g u := by
  unfold O₀ at h
  rcases add_pos_cases h with h | h
  · rcases add_pos_cases h with h | h
    · rcases add_pos_cases h with h | h
      · exact rem_lev (by decide) g u h
      · exact rem_lev (by decide) g u h
    · rw [tally_pos h]; exact ⟨rfl, by rw [lv_bar]; decide⟩
  · rw [tally_pos h]; exact ⟨rfl, by rw [lv_bar]; decide⟩

end Cert.KernelIdeal.Attn

end
-- ==== Proof.Steps.lean ====
/- The rules the body is run by: a loop of pieces, a wait for a counter, a copy to a partner, a load, a store of a head. -/
module

public import proofs.«01_k».proof.Proof.Sched

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- That device `c` runs a program of the body to the end `Q`. -/
abbrev WP (c : Dev nD) (Q : PUnit → sProp 𝕄) (p : BProg F) : sProp 𝕄 :=
  wp frame (wpE (defs₀ (F := F)) 𝒱₀ (c : Thread nD τ) none) Set.univ p Q

/-- A loop of pieces, each turning what it finds of its own into what it leaves, beside what passes from one to the next. -/
theorem wp_rep {N : ℕ} (f : Fin N → BProg F → BProg F) (Wk : BProg F → sProp 𝕄) (I : ℕ → sProp 𝕄) (Pre Post : Fin N → sProp 𝕄)
    (h : ∀ (i : Fin N) (k : BProg F), iprop(I i.val ∗ Pre i ∗ ((I (i.val + 1) ∗ Post i) -∗ Wk k)) ⊢ Wk (f i k)) :
    ∀ (n i : ℕ) (hi : i + n = N) (k : BProg F),
      iprop(I i ∗ bigSep (Finset.univ.filter fun x : Fin N => i ≤ x.val) Pre
          ∗ ((I N ∗ bigSep (Finset.univ.filter fun x : Fin N => i ≤ x.val) Post) -∗ Wk k)) ⊢ Wk (rep f n i hi k) := by
  intro n
  induction n with
  | zero =>
    intro i hi k
    obtain rfl : i = N := by omega
    rw [show (Finset.univ.filter fun x : Fin i => i ≤ x.val) = ∅ from by ext x; have := x.isLt; simp, bigSep_empty, bigSep_empty]
    unfold rep
    iintro ⟨HI, -, Hk⟩
    iapply Hk
    isplitl [HI]; · iexact HI
    iempintro
  | succ n ih =>
    intro i hi k
    have hs : (Finset.univ.filter fun x : Fin N => i ≤ x.val) = insert (⟨i, by omega⟩ : Fin N) (Finset.univ.filter fun x : Fin N => i + 1 ≤ x.val) := by
      ext x; simp only [Finset.mem_filter, Finset.mem_univ, _root_.true_and, Finset.mem_insert, Fin.ext_iff]; omega
    have hn : (⟨i, by omega⟩ : Fin N) ∉ (Finset.univ.filter fun x : Fin N => i + 1 ≤ x.val) := by simp
    rw [hs, bigSep_insert hn, bigSep_insert hn]
    show _ ⊢ Wk (f ⟨i, by omega⟩ (rep f n (i + 1) (by omega) k))
    refine (show iprop(I i ∗ (Pre ⟨i, by omega⟩ ∗ bigSep (Finset.univ.filter fun x : Fin N => i + 1 ≤ x.val) Pre)
        ∗ ((I N ∗ (Post ⟨i, by omega⟩ ∗ bigSep (Finset.univ.filter fun x : Fin N => i + 1 ≤ x.val) Post)) -∗ Wk k))
      ⊢ iprop(I i ∗ Pre ⟨i, by omega⟩ ∗ ((I (i + 1) ∗ Post ⟨i, by omega⟩) -∗ Wk (rep f n (i + 1) (by omega) k))) from ?_).trans
      (h ⟨i, by omega⟩ _)
    iintro ⟨HI, ⟨Hp, Hps⟩, Hk⟩
    isplitl [HI]; · iexact HI
    isplitl [Hp]; · iexact Hp
    iintro ⟨HI, Hq⟩
    iapply (ih (i + 1) _ k)
    isplitl [HI]; · iexact HI
    isplitl [Hps]; · iexact Hps
    iintro ⟨HI, Hqs⟩
    iapply Hk
    isplitl [HI]; · iexact HI
    isplitl [Hq]; · iexact Hq
    iexact Hqs

/-- The whole loop. -/
theorem wp_loop {N : ℕ} (f : Fin N → BProg F → BProg F) (Wk : BProg F → sProp 𝕄) (I : ℕ → sProp 𝕄) (Pre Post : Fin N → sProp 𝕄)
    (h : ∀ (i : Fin N) (k : BProg F), iprop(I i.val ∗ Pre i ∗ ((I (i.val + 1) ∗ Post i) -∗ Wk k)) ⊢ Wk (f i k))
    (hN : 0 + N = N) (k : BProg F) :
    iprop(I 0 ∗ bigSep Finset.univ Pre ∗ ((I N ∗ bigSep Finset.univ Post) -∗ Wk k)) ⊢ Wk (rep f N 0 hN k) := by
  have := wp_rep f Wk I Pre Post h N 0 hN k
  rwa [show (Finset.univ.filter fun x : Fin N => 0 ≤ x.val) = Finset.univ from by ext x; simp] at this

/-! ## The cells' invariants -/

variable (D : Ins F)

def barEmb : Dev nD ↪ GSem nD τ sig := ⟨fun c => bar c, fun _ _ h => congrArg (fun g : GSem nD τ sig => g.1.1) h⟩
theorem cell_inj : Function.Injective fun p : Dev nD × Fin 4 × Fin 8 × Bool => cell p.1 p.2.1 p.2.2.1 p.2.2.2 := fun p q h => by
  have h1 : p.1 = q.1 := congrArg (fun g : GSem nD τ sig => g.1.1) h
  have h2 : SemLoc.dma (fs p.2.1 p.2.2.1 p.2.2.2) = SemLoc.dma (fs q.2.1 q.2.2.1 q.2.2.2) := congrArg Prod.snd h
  exact Prod.ext h1 (fs_inj (SemLoc.dma.inj h2))
def scEmb : Dev nD × Fin 4 × Fin 8 × Bool ↪ GSem nD τ sig := ⟨_, cell_inj⟩
abbrev barCells : Finset (GSem nD τ sig) := Finset.univ.map barEmb
abbrev scCells : Finset (GSem nD τ sig) := Finset.univ.map scEmb

theorem bar_mem (c : Dev nD) : bar c ∈ (barCells ∪ scCells : Finset (GSem nD τ sig)) :=
  Finset.mem_union_left _ (Finset.mem_map_of_mem barEmb (Finset.mem_univ c))
theorem cell_mem (c : Dev nD) (f : Fin 4) (j : Fin 8) (b : Bool) : cell c f j b ∈ (barCells ∪ scCells : Finset (GSem nD τ sig)) :=
  Finset.mem_union_right _ (Finset.mem_map_of_mem scEmb (Finset.mem_univ (c, f, j, b)))

/-- Every cell's invariant under one map of names, round 0 of every barrier reached, and the levels: what every device may consult. -/
def ctx (K : GSem nD τ sig → ℕ) : sProp 𝕄 :=
  iprop((bigSep (barCells ∪ scCells) fun g => cellInv ER (Rd D) (K g) g) ∗ (bigSep barCells fun g => reached ER g 0) ∗ levAts L lv)

instance ctx_persistent (K : GSem nD τ sig → ℕ) : BI.Persistent (ctx D K) := by unfold ctx; infer_instance

theorem ctx_cell (K : GSem nD τ sig → ℕ) (c : Dev nD) (f : Fin 4) (j : Fin 8) (b : Bool) :
    ctx D K ⊢ cellInv ER (Rd D) (K (cell c f j b)) (cell c f j b) := by
  have h : (bigSep (barCells ∪ scCells) fun g => (cellInv ER (Rd D) (K g) g : sProp 𝕄)) ⊢ cellInv ER (Rd D) (K (cell c f j b)) (cell c f j b) :=
    bigSep_elim (cell_mem c f j b)
  unfold ctx
  iintro ⟨H, -⟩
  iapply h; iexact H
theorem ctx_bar (K : GSem nD τ sig → ℕ) (c : Dev nD) : ctx D K ⊢ cellInv ER (Rd D) (K (bar c)) (bar c) := by
  have h : (bigSep (barCells ∪ scCells) fun g => (cellInv ER (Rd D) (K g) g : sProp 𝕄)) ⊢ cellInv ER (Rd D) (K (bar c)) (bar c) :=
    bigSep_elim (bar_mem c)
  unfold ctx
  iintro ⟨H, -⟩
  iapply h; iexact H
theorem ctx_reached (K : GSem nD τ sig → ℕ) (c : Dev nD) : ctx D K ⊢ reached ER (bar c) 0 := by
  have h : (bigSep barCells fun g => (reached ER g 0 : sProp 𝕄)) ⊢ reached ER (bar c) 0 :=
    bigSep_elim (Finset.mem_map_of_mem barEmb (Finset.mem_univ c))
  unfold ctx
  iintro ⟨-, H, -⟩
  iapply h; iexact H
theorem ctx_lev (K : GSem nD τ sig → ℕ) : ctx D K ⊢ levAts L lv := by
  unfold ctx
  iintro ⟨-, -, H⟩; iexact H

/-- What `c` owes, whatever it has waited for. -/
abbrev ow (c : Dev nD) (O : CellTallies nD τ sig Unit) : sProp 𝕄 := iprop(∃ W, owes (c : Thread nD τ) O W)
/-- The rights of one wait: the credit and the position before. -/
abbrev wtok (c : Dev nD) (f : Fin 4) (j : Fin 8) (b : Bool) : sProp 𝕄 :=
  iprop(cred (tallyAt (cell c f j b) () (Nb b)) ∗ atPos ER (cell c f j b) 0 ∅ 0)
/-- The rights of one copy: the duties of its two counters, both open. -/
abbrev stok (c p : Dev nD) (f g : Fin 4) (j : Fin 8) (b : Bool) : sProp 𝕄 :=
  iprop((dutyTok ER (cell c f j b) 0 false ∗ reached ER (cell c f j b) 0) ∗ (dutyTok ER (cell p g j b) 0 false ∗ reached ER (cell p g j b) 0))

variable (K : GSem nD τ sig → ℕ) (c : Dev nD)

/-- A wait for a counter: its payload comes. -/
theorem wait_step (Q : PUnit → sProp 𝕄) {sem : DmaSem sig} {f : Fin 4} {j : Fin 8} {b : Bool} (hs : sem = fs f j b)
    {sp sp' : Space} {s s' : Shape} {e e' : EltTy} {src : Memref sig .tc sp' s' e'} {dst : Memref sig .tc sp s e}
    {hsrc : src.view.WordExact} {hdst : dst.view.WordExact} (hN : dst.view.dmaCredit = Nb b)
    (O : CellTallies nD τ sig Unit) (hO : ∀ g u, 0 < O g u → g.1.2 = .tc ∧ flv f < lv g u) (k : PUnit → BProg F) :
    iprop(ctx D K ∗ wtok c f j b ∗ ow c O)
      ⊢ iprop(((ow c O ∗ atPos ER (cell c f j b) 1 ∅ 0 ∗ dmaPay D c (f, j, b)) -∗ WP c Q (k ⟨⟩))
        -∗ WP c Q (.op (.waitDma2 sem src dst hsrc hdst) k)) := by
  subst hs
  iintro ⟨#Hctx, ⟨Hc, Hat⟩, ⟨%W, HO⟩⟩ Hk
  rw [← hN]
  iapply (Rounds.wp_wait_rest_token 𝒱₀ ER (Rd D) (c : Thread nD τ) none (κ := K (cell c f j b))
      (wpE_waitDma2_eq 𝒱₀ (c : Thread nD τ) none Set.univ) (Set.mem_univ _) () (O := O) (W := W) (R := 0) (m := 0) (T := ∅)
      ((Nat.zero_add _).trans (hN.trans (expect_cell D c f j b).symm))) $$ [Hc HO Hat]
  · isplitr; · iapply (ctx_cell D K c f j b); iexact Hctx
    isplitl [Hc]; · iexact Hc
    isplitl [HO]; · iexact HO
    isplitr
    · iapply (mayWait c (.dma (fs f j b)) (flv f) (le_of_eq (lv_cell c f j b ())) O hO)
      iapply (ctx_lev D K); iexact Hctx
    iexact Hat
  iintro ⟨HO, Hat, -, Hpay⟩
  iapply Hk
  isplitl [HO]; · iexists _; iexact HO
  isplitl [Hat]; · iexact Hat
  iapply (Entails.of_eq (rest_cell D c f j b)); iexact Hpay

/-- A copy of a chunk to a partner: the source's share goes to the counter of sends, the partner's chunk, rewritten, to the
    partner's counter. -/
theorem send_step (Q : PUnit → sProp 𝕄) {sS sR : DmaSem sig} {f g : Fin 4} {j : Fin 8} {b : Bool} {p : Dev nD} (hS : sS = fs f j b) (hR : sR = fs g j b)
    {s : Shape} {e : EltTy} {src : Memref sig .tc .vmem s e} {dst : Memref sig .tc .vmem s e}
    {hsc : dst.view.ref.isScScratch = false} {hsrc : src.view.WordExact} {hdst : dst.view.WordExact}
    {hsem : DmaTarget.Typed .vmem (.dma sR) (.remote (Dev.tc p) dst (.dma sS) hsc : DmaTarget nD τ sig .tc .vmem s e)}
    (hN : dst.view.dmaCredit = Nb b)
    (q : PosShare TreeShare) (f₁ : Buf (Elt F) (src.view.loc (c : Thread nD τ))) (fd : Buf (Elt F) (dst.view.loc (p : Thread nD τ)))
    (O : CellTallies nD τ sig Unit)
    (hpay₁ : (src.view.loc (c : Thread nD τ) ↦[src.view.set]{q} f₁) ⊢ dmaPay D c (f, j, b))
    (hpay₂ : (dst.view.loc (p : Thread nD τ) ↦[dst.view.set]{fullShare} (dst.view.write (Elt F) fd (src.view.read (Elt F) f₁) Finset.univ))
      ⊢ dmaPay D p (g, j, b)) (k : PUnit → BProg F) :
    iprop(ctx D K ∗ (src.view.loc (c : Thread nD τ) ↦[src.view.set]{q} f₁) ∗ (dst.view.loc (p : Thread nD τ) ↦[dst.view.set]{fullShare} fd)
        ∗ stok c p f g j b ∗ ow c (O + tallyAt (cell p g j b) () (Nb b)))
      ⊢ iprop(((ow c O ∗ cred (tallyAt (cell c f j b) () (Nb b))) -∗ WP c Q (k ⟨⟩))
        -∗ WP c Q (.op (.enqueueDma src (.remote (Dev.tc p) dst (.dma sS) hsc) (.dma sR) hsrc hdst hsem) k)) := by
  subst hS hR
  iintro ⟨#Hctx, Hs, Hd, ⟨⟨HtS, HrS⟩, ⟨HtR, HrR⟩⟩, ⟨%W, HO⟩⟩ Hk
  iapply (Rounds.wp_send_pointsTo 𝒱₀ ER (Rd D) (c : Thread nD τ) none (c' := (p : Thread nD τ)) (src := src) (dst := dst)
      (sS := .dma (fs f j b)) (sem := .dma (fs g j b)) (q := q) (fs := f₁) (κ₁ := K (cell c f j b)) (κ₂ := K (cell p g j b))
      (r₁ := 0) (r₂ := 0) (d₁ := false) (d₂ := false) (fd := fd)
      (by rw [duties_cell]; exact Finset.mem_singleton_self _) (by rw [duties_cell]; exact Finset.mem_singleton_self _)
      () () (Nb b) hN (amount_cell D c f j b false) (amount_cell D p g j b false) O rfl (W := W)
      (by rw [payload_cell]; exact hpay₁) (by rw [payload_cell]; exact hpay₂)) $$ [Hs Hd HO HtS HrS HtR HrR]
  · isplitr; · iapply (ctx_cell D K c f j b); iexact Hctx
    isplitr; · iapply (ctx_cell D K p g j b); iexact Hctx
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  iapply Hk
  isplitl [HO]; · iexists W; iexact HO
  iexact Hc

end Cert.KernelIdeal.Attn

end
-- ==== Proof.Pieces.lean ====
/- What each piece of the body needs and leaves: the sends and waits of a chunk, and the heads. -/
module

public import proofs.«01_k».proof.Proof.Steps

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The buffers -/

abbrev qM : Memref sig .tc .vmem S16x512x64 .bf16 := Memref.whole cc0_stg0_0
abbrev kM : Memref sig .tc .vmem S16x512x64 .bf16 := Memref.whole cc0_stg1_0
abbrev vM : Memref sig .tc .vmem S16x512x65 .bf16 := Memref.whole cc0_stg2_0
abbrev oM : Memref sig .tc .vmem S16x512x64 .f32 := Memref.whole cc0_stg3_0
abbrev krM : Memref sig .tc .vmem S16x512x64 .bf16 := Memref.whole cc0_scratch0
abbrev vrM : Memref sig .tc .vmem S16x512x65 .bf16 := Memref.whole cc0_scratch1
abbrev aM : Memref sig .tc .vmem S16x512x65 .f32 := Memref.whole cc0_scratch2

abbrev lQ (c : Dev nD) : Loc nD τ sig := (c : Thread nD τ).loc cc0_stg0_0
abbrev lO (c : Dev nD) : Loc nD τ sig := (c : Thread nD τ).loc cc0_stg3_0
abbrev lA (c : Dev nD) : Loc nD τ sig := (c : Thread nD τ).loc cc0_scratch2

theorem acc_set (b : Ref sig .tc) (r : Rect b.ty.shape) : ((View.whole b).slice r).set = r.set := View.set_slice_whole b r

/-- A store's contents on the elements stored to, by what they read as. -/
theorem write_eq {sp : Space} {s : Shape} {e : EltTy} (v : View sig .tc sp s e) (fd f' : v.ty.Contents (Elt F)) (X : s.Idx → Elt F e)
    (h : v.read (Elt F) f' = X) : ∀ i ∈ v.set, v.write (Elt F) fd X Finset.univ i = f' i := by
  intro i hi
  obtain ⟨x, -, rfl⟩ := Finset.mem_map.mp hi
  rw [View.write_emb_of_mem _ _ (Finset.mem_univ x), ← h, View.read_apply, cast_cast, cast_eq]

variable (D : Ins F) (K : GSem nD τ sig → ℕ) (c : Dev nD)

/-! ## What a device's heads hold -/

/-- An array of heads from its heads. -/
def sub3 {n : ℕ} (i : Shape.Idx ⟨3, ![16, 512, n]⟩) : Shape.Idx ⟨3, ![1, 512, n]⟩ := fun a =>
  match a with
  | 0 => ⟨0, Nat.one_pos⟩
  | 1 => ⟨(i 1).val, (i 1).isLt⟩
  | 2 => ⟨(i 2).val, (i 2).isLt⟩
def full {n : ℕ} {α : Type} (X : Fin 16 → Shape.Idx ⟨3, ![1, 512, n]⟩ → α) : Shape.Idx ⟨3, ![16, 512, n]⟩ → α :=
  fun i => X (i 0) (sub3 i)

theorem full_emb {n : ℕ} {α : Type} (X : Fin 16 → Shape.Idx ⟨3, ![1, 512, n]⟩ → α) (h : Fin 16) (inb) (x : Shape.Idx ⟨3, ![1, 512, n]⟩) :
    full X ((Rect.unit (s := ⟨3, ![16, 512, n]⟩) ![h.val, 0, 0] ![1, 512, n] inb).emb x) = X h x := by
  have h0 : ((Rect.unit (s := ⟨3, ![16, 512, n]⟩) ![h.val, 0, 0] ![1, 512, n] inb).emb x) 0 = h := by
    apply Fin.ext
    have hx : (x 0).val < 1 := (x 0).isLt
    show h.val + 1 * (x 0).val = h.val; omega
  have h1 : sub3 ((Rect.unit (s := ⟨3, ![16, 512, n]⟩) ![h.val, 0, 0] ![1, 512, n] inb).emb x) = x := by
    funext a
    apply Fin.ext
    fin_cases a
    · have hx : (x 0).val < 1 := (x 0).isLt
      show 0 = (x 0).val; omega
    · show 0 + 1 * (x 1).val = (x 1).val; omega
    · show 0 + 1 * (x 2).val = (x 2).val; omega
  unfold full; rw [h0, h1]

/-- Head `i` after the local keys, after the keys that came over y, and the result. -/
def locV (i : Fin 16) : FVec F S1x512x65 .f32 :=
  locVal (fun x => D.k c ((rh64 i).emb x)) (fun x => D.v c ((rh65 i).emb x)) (fun x => D.q c ((rh64 i).emb x))
def midV (i : Fin 16) : FVec F S1x512x65 .f32 :=
  midVal (fun x => KR D c ((rm64 c i).emb x)) (fun x => VR D c ((rm65 c i).emb x)) (fun x => D.q c ((rh64 i).emb x)) (locV D c i)
def finV (i : Fin 16) : FVec F S1x512x64 .f32 :=
  finVal (fun x => KR D c ((ro64 c i).emb x)) (fun x => VR D c ((ro65 c i).emb x)) (fun x => D.q c ((rh64 i).emb x)) (midV D c i)

abbrev B65f (F : FTy → Type) [FloatOps F] := S16x512x65.Idx → Elt F .f32
abbrev B64f (F : FTy → Type) [FloatOps F] := S16x512x64.Idx → Elt F .f32
def LOC : B65f F := full (n := 65) (locV D c)
def MID : B65f F := full (n := 65) (midV D c)
def OUT : B64f F := full (n := 64) (finV D c)

/-- Head `i` of the accumulator, and of the result. -/
abbrev pA (i : ℕ) (f : B65f F) : sProp 𝕄 := lA c ↦[hd 65 i]{fullShare} f
abbrev pO (i : ℕ) (f : B64f F) : sProp 𝕄 := lO c ↦[hd 64 i]{fullShare} f

/-! ## Loads and stores -/

theorem load_step (Q : PUnit → sProp 𝕄) {s : Shape} {e : EltTy} (m : Memref sig .tc .vmem s e) (r : Rect s) {hl : m.view.LoadsAt r.toLoadRect}
    {S : Finset (Idx ((m.access r).loc (c : Thread nD τ)))} {q : PosShare TreeShare} {f : Buf (Elt F) ((m.access r).loc (c : Thread nD τ))}
    (hS : (m.access r).set ⊆ S) (k : (r.shape.Idx → Elt F e) → BProg F) :
    ((m.access r).loc (c : Thread nD τ) ↦[S]{q} f)
      ⊢ iprop((((m.access r).loc (c : Thread nD τ) ↦[S]{q} f) -∗ WP c Q (k ((m.access r).read (Elt F) f)))
        -∗ WP c Q (.op (.load m r.toLoadRect hl) k)) :=
  wp_load_rect 𝒱₀ (c : Thread nD τ) none Set.univ hS

theorem store_step (Q : PUnit → sProp 𝕄) {s : Shape} {e : EltTy} (m : Memref sig .tc .vmem s e) (r : Rect s) {w : r.shape.Idx → Elt F e}
    {hx : (m.access r).Stores Finset.univ} {hm : (Finset.univ : Finset r.shape.Idx) = Finset.univ ∨ ∀ a, r.stride a = 1}
    {f : Buf (Elt F) ((m.access r).loc (c : Thread nD τ))}
    (f' : Buf (Elt F) ((m.access r).loc (c : Thread nD τ))) (hf : (m.access r).read (Elt F) f' = w) (k : PUnit → BProg F) :
    ((m.access r).loc (c : Thread nD τ) ↦[(m.access r).set]{fullShare} f)
      ⊢ iprop((((m.access r).loc (c : Thread nD τ) ↦[(m.access r).set]{fullShare} f') -∗ WP c Q (k ⟨⟩))
        -∗ WP c Q (.op (.store m r w Finset.univ hx hm) k)) := by
  have e : (((m.access r).loc (c : Thread nD τ) ↦[(m.access r).set]{fullShare} ((m.access r).write (Elt F) f w Finset.univ)) : sProp 𝕄)
      = ((m.access r).loc (c : Thread nD τ) ↦[(m.access r).set]{fullShare} f') := pointsTo_congr (write_eq (m.access r) f f' w hf)
  rw [← e]
  exact wp_store 𝒱₀ (c : Thread nD τ) none Set.univ (Finset.Subset.refl _)

/-! ## The heads -/

abbrev wQ : sProp 𝕄 := lQ c ↦[Finset.univ]{fullShare} D.q c
abbrev wK : sProp 𝕄 := lK c ↦[Finset.univ]{qL} D.k c
abbrev wV : sProp 𝕄 := lV c ↦[Finset.univ]{qL} D.v c

theorem aset (i : Fin 16) : (aM.access (rh65 i)).set = hd 65 i.val := (acc_set cc0_scratch2 (rh65 i)).trans (rh65_set i)
theorem oset (i : Fin 16) : (oM.access (rh64 i)).set = hd 64 i.val := (acc_set cc0_stg3_0 (rh64 i)).trans (rh64_set i)

theorem rd_loc (i : Fin 16) : (aM.access (rh65 i)).read (Elt F) (LOC D c) = locV D c i := funext fun x => full_emb (locV D c) i _ x
theorem rd_mid (i : Fin 16) : (aM.access (rh65 i)).read (Elt F) (MID D c) = midV D c i := funext fun x => full_emb (midV D c) i _ x
theorem rd_out (i : Fin 16) : (oM.access (rh64 i)).read (Elt F) (OUT D c) = finV D c i := funext fun x => full_emb (finV D c) i _ x

theorem locHead_step (Q : PUnit → sProp 𝕄) (i : Fin 16) (k : BProg F) :
    iprop((wQ D c ∗ wK D c ∗ wV D c) ∗ (∃ f, pA c i.val f) ∗ (((wQ D c ∗ wK D c ∗ wV D c) ∗ pA c i.val (LOC D c)) -∗ WP c Q k))
      ⊢ WP c Q (locHead qM kM vM aM i k) := by
  unfold pA
  rw [← aset i]
  unfold locHead
  iintro ⟨⟨Hq, Hk, Hv⟩, ⟨%f, Ha⟩, Hc⟩
  iapply (load_step c Q kM (rh64 i) (Finset.subset_univ _)) $$ Hk; iintro Hk
  iapply (load_step c Q vM (rh65 i) (Finset.subset_univ _)) $$ Hv; iintro Hv
  iapply (load_step c Q qM (rh64 i) (Finset.subset_univ _)) $$ Hq; iintro Hq
  iapply (load_step c Q aM (rh65 i) (Finset.Subset.refl _)) $$ Ha; iintro Ha
  iapply (store_step c Q aM (rh65 i) (LOC D c) (rd_loc D c i)) $$ Ha; iintro Ha
  iapply Hc
  isplitl [Hq Hk Hv]
  · isplitl [Hq]; · iexact Hq
    isplitl [Hk]; · iexact Hk
    iexact Hv
  iexact Ha

/-- The received rows a half's heads read, at a share. -/
abbrev half (lo : ℕ) (q : PosShare TreeShare) : sProp 𝕄 := iprop(wQ D c ∗ pKr c lo 256 q (KR D c) ∗ pVr c lo 256 q (VR D c))

theorem mineHead_step (Q : PUnit → sProp 𝕄) (i : Fin 16) (k : BProg F) :
    iprop(half D c (myRow c) qL ∗ pA c i.val (LOC D c) ∗ ((half D c (myRow c) qL ∗ pA c i.val (MID D c)) -∗ WP c Q k))
      ⊢ WP c Q (mineHead qM krM vrM aM c i k) := by
  unfold pA
  rw [← aset i]
  unfold mineHead
  iintro ⟨⟨Hq, Hk, Hv⟩, Ha, Hc⟩
  iapply (load_step c Q krM (rm64 c i) ((acc_set cc0_scratch0 (rm64 c i)).trans_subset (rm64_sub c i))) $$ Hk; iintro Hk
  iapply (load_step c Q vrM (rm65 c i) ((acc_set cc0_scratch1 (rm65 c i)).trans_subset (rm65_sub c i))) $$ Hv; iintro Hv
  iapply (load_step c Q qM (rh64 i) (Finset.subset_univ _)) $$ Hq; iintro Hq
  iapply (load_step c Q aM (rh65 i) (Finset.Subset.refl _)) $$ Ha; iintro Ha
  iapply (load_step c Q aM (rh65 i) (Finset.Subset.refl _)) $$ Ha; iintro Ha
  rw [rd_loc D c i]
  iapply (store_step c Q aM (rh65 i) (MID D c) (rd_mid D c i)) $$ Ha; iintro Ha
  iapply Hc
  isplitl [Hq Hk Hv]
  · isplitl [Hq]; · iexact Hq
    isplitl [Hk]; · iexact Hk
    iexact Hv
  iexact Ha

theorem otherHead_step (Q : PUnit → sProp 𝕄) (i : Fin 16) (k : BProg F) :
    iprop(half D c (otRow c) fullShare ∗ (pA c i.val (MID D c) ∗ ∃ f, pO c i.val f)
        ∗ ((half D c (otRow c) fullShare ∗ (pA c i.val (MID D c) ∗ pO c i.val (OUT D c))) -∗ WP c Q k))
      ⊢ WP c Q (otherHead qM oM krM vrM aM c i k) := by
  unfold pA pO
  rw [← aset i, ← oset i]
  unfold otherHead
  iintro ⟨⟨Hq, Hk, Hv⟩, ⟨Ha, ⟨%f, Ho⟩⟩, Hc⟩
  iapply (load_step c Q krM (ro64 c i) ((acc_set cc0_scratch0 (ro64 c i)).trans_subset (ro64_sub c i))) $$ Hk; iintro Hk
  iapply (load_step c Q vrM (ro65 c i) ((acc_set cc0_scratch1 (ro65 c i)).trans_subset (ro65_sub c i))) $$ Hv; iintro Hv
  iapply (load_step c Q qM (rh64 i) (Finset.subset_univ _)) $$ Hq; iintro Hq
  iapply (load_step c Q aM (rh65 i) (Finset.Subset.refl _)) $$ Ha; iintro Ha
  iapply (load_step c Q oM (rh64 i) (Finset.Subset.refl _)) $$ Ho; iintro Ho
  rw [rd_mid D c i]
  iapply (store_step c Q oM (rh64 i) (OUT D c) (rd_out D c i)) $$ Ho; iintro Ho
  iapply Hc
  isplitl [Hq Hk Hv]
  · isplitl [Hq]; · iexact Hq
    isplitl [Hk]; · iexact Hk
    iexact Hv
  isplitl [Ha]; · iexact Ha
  iexact Ho

/-! ## Chunks -/

theorem kset (b : Ref sig .tc) (r : Rect b.ty.shape) {S : Finset b.ty.Idx} (h : r.set = S) : ((View.whole b).slice r).set = S :=
  (acc_set b r).trans h

variable (j : Fin 8)

abbrev krS : Memref sig .tc .vmem ⟨3, ![16, 32, 64]⟩ .bf16 := krM.slice (rk c j) (fun _ => rfl)
abbrev vrS : Memref sig .tc .vmem ⟨3, ![16, 32, 65]⟩ .bf16 := vrM.slice (rv c j) (fun _ => rfl)
abbrev kS : Memref sig .tc .vmem ⟨3, ![16, 32, 64]⟩ .bf16 := kM.slice (rk c j) (fun _ => rfl)
abbrev vS : Memref sig .tc .vmem ⟨3, ![16, 32, 65]⟩ .bf16 := vM.slice (rv c j) (fun _ => rfl)

theorem krS_set : (krS c j).view.set = rows 64 (myRow c + 32 * j.val) 32 := kset cc0_scratch0 (rk c j) (rk_set c j)
theorem vrS_set : (vrS c j).view.set = rows 65 (myRow c + 32 * j.val) 32 := kset cc0_scratch1 (rv c j) (rv_set c j)
theorem kS_set : (kS c j).view.set = rows 64 (myRow c + 32 * j.val) 32 := kset cc0_stg1_0 (rk c j) (rk_set c j)
theorem vS_set : (vS c j).view.set = rows 65 (myRow c + 32 * j.val) 32 := kset cc0_stg2_0 (rv c j) (rv_set c j)

theorem myRow_in : myRow c ≤ myRow c + 32 * j.val ∧ myRow c + 32 * j.val + 32 ≤ myRow c + 256 := by have := j.isLt; omega

/-- A chunk of the received keys written with what another buffer's same chunk holds. -/
theorem landed {s : Shape} {e : EltTy} (src dst : Memref sig .tc .vmem s e) (p : Dev nD) (f₁ : src.view.ty.Contents (Elt F)) (fd f' f'' : dst.view.ty.Contents (Elt F))
    (h : dst.view.read (Elt F) f' = src.view.read (Elt F) f₁) (h' : ∀ i ∈ dst.view.set, f' i = f'' i) :
    ((dst.view.loc (p : Thread nD τ) ↦[dst.view.set]{fullShare} (dst.view.write (Elt F) fd (src.view.read (Elt F) f₁) Finset.univ)) : sProp 𝕄)
      = (dst.view.loc (p : Thread nD τ) ↦[dst.view.set]{fullShare} f'') :=
  pointsTo_congr fun i hi => (write_eq dst.view fd f' _ h i hi).trans (h' i hi)

theorem landKy (fd : B64 F) :
    (((krS c j).view.loc (yp c : Thread nD τ) ↦[(krS c j).view.set]{fullShare} ((krS c j).view.write (Elt F) fd ((kS c j).view.read (Elt F) (D.k c)) Finset.univ)) : sProp 𝕄)
      ⊢ dmaPay D (yp c) (2, j, false) := by
  rw [landed (kS c j) (krS c j) (yp c) (D.k c) fd (D.k c) (KR D (yp c)) rfl
    (fun i hi => by rw [krS_set] at hi; rw [KR_my D (yp c) (by rw [myRow_yp]; exact (myRow_in c j).1) (by rw [myRow_yp]; exact (myRow_in c j).2) i hi, yp_yp]), krS_set]
  unfold dmaPay
  rw [myRow_yp]
theorem landVy (fd : B65 F) :
    (((vrS c j).view.loc (yp c : Thread nD τ) ↦[(vrS c j).view.set]{fullShare} ((vrS c j).view.write (Elt F) fd ((vS c j).view.read (Elt F) (D.v c)) Finset.univ)) : sProp 𝕄)
      ⊢ dmaPay D (yp c) (2, j, true) := by
  rw [landed (vS c j) (vrS c j) (yp c) (D.v c) fd (D.v c) (VR D (yp c)) rfl
    (fun i hi => by rw [vrS_set] at hi; rw [VR_my D (yp c) (by rw [myRow_yp]; exact (myRow_in c j).1) (by rw [myRow_yp]; exact (myRow_in c j).2) i hi, yp_yp]), vrS_set]
  unfold dmaPay
  rw [myRow_yp]
theorem landKx (fd : B64 F) :
    (((krS c j).view.loc (xp c : Thread nD τ) ↦[(krS c j).view.set]{fullShare} ((krS c j).view.write (Elt F) fd ((krS c j).view.read (Elt F) (KR D c)) Finset.univ)) : sProp 𝕄)
      ⊢ dmaPay D (xp c) (3, j, false) := by
  rw [landed (krS c j) (krS c j) (xp c) (KR D c) fd (KR D c) (KR D (xp c)) rfl
    (fun i hi => by rw [krS_set] at hi; rw [KR_x D c (myRow_in c j).1 (myRow_in c j).2 i hi]), krS_set]
  unfold dmaPay
  rw [otRow_xp]
theorem landVx (fd : B65 F) :
    (((vrS c j).view.loc (xp c : Thread nD τ) ↦[(vrS c j).view.set]{fullShare} ((vrS c j).view.write (Elt F) fd ((vrS c j).view.read (Elt F) (VR D c)) Finset.univ)) : sProp 𝕄)
      ⊢ dmaPay D (xp c) (3, j, true) := by
  rw [landed (vrS c j) (vrS c j) (xp c) (VR D c) fd (VR D c) (VR D (xp c)) rfl
    (fun i hi => by rw [vrS_set] at hi; rw [VR_x D c (myRow_in c j).1 (myRow_in c j).2 i hi]), vrS_set]
  unfold dmaPay
  rw [otRow_xp]

/-! ## The payments, unfolded -/

theorem pay0K : dmaPay D c (0, j, false) = pK c (myRow c + 32 * j.val) 32 qR (D.k c) := rfl
theorem pay0V : dmaPay D c (0, j, true) = pV c (myRow c + 32 * j.val) 32 qR (D.v c) := rfl
theorem pay1K : dmaPay D c (1, j, false) = pKr c (myRow c + 32 * j.val) 32 qR (KR D c) := rfl
theorem pay1V : dmaPay D c (1, j, true) = pVr c (myRow c + 32 * j.val) 32 qR (VR D c) := rfl
theorem pay2K : dmaPay D c (2, j, false) = pKr c (myRow c + 32 * j.val) 32 fullShare (KR D c) := rfl
theorem pay2V : dmaPay D c (2, j, true) = pVr c (myRow c + 32 * j.val) 32 fullShare (VR D c) := rfl
theorem pay3K : dmaPay D c (3, j, false) = pKr c (otRow c + 32 * j.val) 32 fullShare (KR D c) := rfl
theorem pay3V : dmaPay D c (3, j, true) = pVr c (otRow c + 32 * j.val) 32 fullShare (VR D c) := rfl

/-! ## The sends over y -/

def ySendPre (j : Fin 8) : sProp 𝕄 :=
  iprop((pK c (myRow c + 32 * j.val) 32 qR (D.k c) ∗ pV c (myRow c + 32 * j.val) 32 qR (D.v c))
    ∗ ((∃ f, pKr (yp c) (myRow c + 32 * j.val) 32 fullShare f) ∗ (∃ f, pVr (yp c) (myRow c + 32 * j.val) 32 fullShare f))
    ∗ (stok c (yp c) 0 2 j false ∗ stok c (yp c) 0 2 j true))
abbrev sCred (f : Fin 4) (j : Fin 8) : sProp 𝕄 :=
  iprop(cred (tallyAt (cell c f j false) () (Nb false)) ∗ cred (tallyAt (cell c f j true) () (Nb true)))

theorem ySend_step (Q : PUnit → sProp 𝕄) (k : BProg F) (h1 h2 h4 h5) :
    iprop((ctx D K ∗ ow c (rem (xp c) 3 0 + rem (yp c) 2 j.val)) ∗ ySendPre D c j
        ∗ (((ctx D K ∗ ow c (rem (xp c) 3 0 + rem (yp c) 2 (j.val + 1))) ∗ sCred c 0 j) -∗ WP c Q k))
      ⊢ WP c Q (ySend kM h1 vM h2 krM h4 vrM h5 cc0_scratch3 cc0_scratch5 c j k) := by
  unfold ySend ySendPre pK pV pKr pVr
  rw [rem_succ, ← add_assoc, ← add_assoc]
  iintro ⟨⟨#Hctx, HO⟩, ⟨⟨Hk, Hv⟩, ⟨⟨%fk, Hkr⟩, ⟨%fv, Hvr⟩⟩, ⟨Ht, Ht'⟩⟩, Hc⟩
  iapply (send_step D K c Q (p := yp c) (b := false) (sem7K j) (sem9K j) (src := kS c j) (dst := krS c j) rfl qR (D.k c) fk
      (rem (xp c) 3 0 + rem (yp c) 2 (j.val + 1) + tallyAt (cell (yp c) 2 j true) () (Nb true))
      (by rw [kS_set]; exact Entails.refl _) (landKy D c j fk)) $$ [Hk Hkr Ht HO]
  · isplitr; · iexact Hctx
    isplitl [Hk]; · rw [kS_set]; iexact Hk
    isplitl [Hkr]; · rw [krS_set]; iexact Hkr
    isplitl [Ht]; · iexact Ht
    iexact HO
  iintro ⟨HO, Hcr⟩
  iapply (send_step D K c Q (p := yp c) (b := true) (sem7V j) (sem9V j) (src := vS c j) (dst := vrS c j) rfl qR (D.v c) fv
      (rem (xp c) 3 0 + rem (yp c) 2 (j.val + 1))
      (by rw [vS_set]; exact Entails.refl _) (landVy D c j fv)) $$ [Hv Hvr Ht' HO]
  · isplitr; · iexact Hctx
    isplitl [Hv]; · rw [vS_set]; iexact Hv
    isplitl [Hvr]; · rw [vrS_set]; iexact Hvr
    isplitl [Ht']; · iexact Ht'
    iexact HO
  iintro ⟨HO, Hcr'⟩
  iapply Hc
  isplitl [HO]
  · isplitr; · iexact Hctx
    iexact HO
  isplitl [Hcr]; · iexact Hcr
  iexact Hcr'

/-! ## A chunk as it comes -/

/-- Both waits of a chunk's counters of a family, done. -/
abbrev done (f : Fin 4) (j : Fin 8) : sProp 𝕄 := iprop(atPos ER (cell c f j false) 1 ∅ 0 ∗ atPos ER (cell c f j true) 1 ∅ 0)
abbrev todo (f : Fin 4) (j : Fin 8) : sProp 𝕄 := iprop(wtok c f j false ∗ wtok c f j true)

theorem split_share {ℓ : Loc nD τ sig} {I : Finset (Idx ℓ)} {f : Buf (Elt F) ℓ} :
    ((ℓ ↦[I]{fullShare} f) : sProp 𝕄) ⊣⊢ iprop((ℓ ↦[I]{qL} f) ∗ ℓ ↦[I]{qR} f) :=
  pointsTo_share (PosShare.mem_left_op_right fullShare)

def midPre (j : Fin 8) : sProp 𝕄 :=
  iprop(todo c 2 j
    ∗ ((∃ f, pKr (xp c) (myRow c + 32 * j.val) 32 fullShare f) ∗ (∃ f, pVr (xp c) (myRow c + 32 * j.val) 32 fullShare f))
    ∗ (stok c (xp c) 1 3 j false ∗ stok c (xp c) 1 3 j true)
    ∗ ((∃ f, pA c (2 * j.val) f) ∗ (∃ f, pA c (2 * j.val + 1) f)))
def midPost (j : Fin 8) : sProp 𝕄 :=
  iprop(done c 2 j ∗ sCred c 1 j
    ∗ (pKr c (myRow c + 32 * j.val) 32 qL (KR D c) ∗ pVr c (myRow c + 32 * j.val) 32 qL (VR D c))
    ∗ (pA c (2 * j.val) (LOC D c) ∗ pA c (2 * j.val + 1) (LOC D c)))

theorem mid_step (Q : PUnit → sProp 𝕄) (k : BProg F) (h1 h2 h4 h5) :
    iprop((ctx D K ∗ ow c (rem (xp c) 3 j.val) ∗ (wQ D c ∗ wK D c ∗ wV D c)) ∗ midPre c j
        ∗ (((ctx D K ∗ ow c (rem (xp c) 3 (j.val + 1)) ∗ (wQ D c ∗ wK D c ∗ wV D c)) ∗ midPost D c j) -∗ WP c Q k))
      ⊢ WP c Q (mid qM kM h1 vM h2 krM h4 vrM h5 aM cc0_scratch4 cc0_scratch5 cc0_scratch6 c j k) := by
  unfold mid yWait xSend midPre midPost
  iintro ⟨⟨#Hctx, HO, Hloc⟩, ⟨⟨Hw, Hw'⟩, ⟨⟨%fk, Hkr⟩, ⟨%fv, Hvr⟩⟩, ⟨Ht, Ht'⟩, ⟨Ha, Ha'⟩⟩, Hc⟩
  iapply (wait_step D K c Q (sem9K j) (dst := krS c j) rfl (rem (xp c) 3 j.val) (fun g u h => rem_lev (by decide) g u h)) $$ [Hw HO]
  · isplitr; · iexact Hctx
    isplitl [Hw]; · iexact Hw
    iexact HO
  iintro ⟨HO, Hd, Hpk⟩
  iapply (wait_step D K c Q (sem9V j) (dst := vrS c j) rfl (rem (xp c) 3 j.val) (fun g u h => rem_lev (by decide) g u h)) $$ [Hw' HO]
  · isplitr; · iexact Hctx
    isplitl [Hw']; · iexact Hw'
    iexact HO
  iintro ⟨HO, Hd', Hpv⟩
  ihave Hpk := (Entails.of_eq (pay2K D c j)) $$ Hpk
  ihave Hpv := (Entails.of_eq (pay2V D c j)) $$ Hpv
  ihave Hpk := (split_share (ℓ := lKr c) (I := rows 64 (myRow c + 32 * j.val) 32) (f := KR D c)).1 $$ Hpk
  ihave Hpv := (split_share (ℓ := lVr c) (I := rows 65 (myRow c + 32 * j.val) 32) (f := VR D c)).1 $$ Hpv
  icases Hpk with ⟨HkL, HkR⟩
  icases Hpv with ⟨HvL, HvR⟩
  ihave HO := (show ow c (rem (xp c) 3 j.val) ⊢ ow c (rem (xp c) 3 (j.val + 1) + tallyAt (cell (xp c) 3 j true) () (Nb true) + tallyAt (cell (xp c) 3 j false) () (Nb false)) from by rw [← rem_succ]) $$ HO
  iapply (send_step D K c Q (p := xp c) (b := false) (sem8K j) (sem10K j) (src := krS c j) (dst := krS c j) rfl qR (KR D c) fk
      (rem (xp c) 3 (j.val + 1) + tallyAt (cell (xp c) 3 j true) () (Nb true))
      (by rw [krS_set]; exact Entails.refl _) (landKx D c j fk)) $$ [HkR Hkr Ht HO]
  · isplitr; · iexact Hctx
    isplitl [HkR]; · rw [krS_set]; iexact HkR
    isplitl [Hkr]; · rw [krS_set]; iexact Hkr
    isplitl [Ht]; · iexact Ht
    iexact HO
  iintro ⟨HO, Hcr⟩
  iapply (send_step D K c Q (p := xp c) (b := true) (sem8V j) (sem10V j) (src := vrS c j) (dst := vrS c j) rfl qR (VR D c) fv
      (rem (xp c) 3 (j.val + 1))
      (by rw [vrS_set]; exact Entails.refl _) (landVx D c j fv)) $$ [HvR Hvr Ht' HO]
  · isplitr; · iexact Hctx
    isplitl [HvR]; · rw [vrS_set]; iexact HvR
    isplitl [Hvr]; · rw [vrS_set]; iexact Hvr
    isplitl [Ht']; · iexact Ht'
    iexact HO
  iintro ⟨HO, Hcr'⟩
  iapply (locHead_step D c Q ⟨2 * j.val, _⟩ _)
  isplitl [Hloc]; · iexact Hloc
  isplitl [Ha]; · iexact Ha
  iintro ⟨Hloc, Ha⟩
  iapply (locHead_step D c Q ⟨2 * j.val + 1, _⟩ _)
  isplitl [Hloc]; · iexact Hloc
  isplitl [Ha']; · iexact Ha'
  iintro ⟨Hloc, Ha'⟩
  iapply Hc
  isplitl [HO Hloc]
  · isplitr; · iexact Hctx
    isplitl [HO]; · iexact HO
    iexact Hloc
  isplitl [Hd Hd']
  · isplitl [Hd]; · iexact Hd
    iexact Hd'
  isplitl [Hcr Hcr']
  · isplitl [Hcr]; · iexact Hcr
    iexact Hcr'
  isplitl [HkL HvL]
  · isplitl [HkL]; · iexact HkL
    iexact HvL
  isplitl [Ha]; · iexact Ha
  iexact Ha'

/-! ## The chunks over x, and the waits for the sends -/

def xPost (j : Fin 8) : sProp 𝕄 :=
  iprop(done c 3 j ∗ (pKr c (otRow c + 32 * j.val) 32 fullShare (KR D c) ∗ pVr c (otRow c + 32 * j.val) 32 fullShare (VR D c)))

theorem none_owed (n : ℕ) (g : GSem nD τ sig) (u : Unit) (h : 0 < (0 : CellTallies nD τ sig Unit) g u) : g.1.2 = .tc ∧ n < lv g u :=
  absurd h (Nat.lt_irrefl 0)

abbrev kroS : Memref sig .tc .vmem ⟨3, ![16, 32, 64]⟩ .bf16 := krM.slice (rko c j) (fun _ => rfl)
abbrev vroS : Memref sig .tc .vmem ⟨3, ![16, 32, 65]⟩ .bf16 := vrM.slice (rvo c j) (fun _ => rfl)
theorem kroS_credit : (kroS c j).view.dmaCredit = Nb false := rfl
theorem vroS_credit : (vroS c j).view.dmaCredit = Nb true := rfl

theorem xWait_step (Q : PUnit → sProp 𝕄) (k : BProg F) (h4 h5) :
    iprop((ctx D K ∗ ow c 0) ∗ todo c 3 j ∗ (((ctx D K ∗ ow c 0) ∗ xPost D c j) -∗ WP c Q k))
      ⊢ WP c Q (xWait krM h4 vrM h5 cc0_scratch6 c j k) := by
  unfold xWait xPost
  iintro ⟨⟨#Hctx, HO⟩, ⟨Hw, Hw'⟩, Hc⟩
  iapply (wait_step D K c Q (sem10K j) (b := false) (dst := kroS c j) (kroS_credit c j) 0 (none_owed _)) $$ [Hw HO]
  · isplitr; · iexact Hctx
    isplitl [Hw]; · iexact Hw
    iexact HO
  iintro ⟨HO, Hd, Hpk⟩
  iapply (wait_step D K c Q (sem10V j) (b := true) (dst := vroS c j) (vroS_credit c j) 0 (none_owed _)) $$ [Hw' HO]
  · isplitr; · iexact Hctx
    isplitl [Hw']; · iexact Hw'
    iexact HO
  iintro ⟨HO, Hd', Hpv⟩
  ihave Hpk := (Entails.of_eq (pay3K D c j)) $$ Hpk
  ihave Hpv := (Entails.of_eq (pay3V D c j)) $$ Hpv
  iapply Hc
  isplitl [HO]
  · isplitr; · iexact Hctx
    iexact HO
  isplitl [Hd Hd']
  · isplitl [Hd]; · iexact Hd
    iexact Hd'
  isplitl [Hpk]; · iexact Hpk
  iexact Hpv

def sPost (j : Fin 8) : sProp 𝕄 :=
  iprop((done c 0 j ∗ done c 1 j)
    ∗ (pK c (myRow c + 32 * j.val) 32 qR (D.k c) ∗ pV c (myRow c + 32 * j.val) 32 qR (D.v c))
    ∗ (pKr c (myRow c + 32 * j.val) 32 qR (KR D c) ∗ pVr c (myRow c + 32 * j.val) 32 qR (VR D c)))

theorem sWait_step (Q : PUnit → sProp 𝕄) (k : BProg F) (h1 h2 h4 h5) :
    iprop((ctx D K ∗ ow c 0) ∗ (todo c 0 j ∗ todo c 1 j) ∗ (((ctx D K ∗ ow c 0) ∗ sPost D c j) -∗ WP c Q k))
      ⊢ WP c Q (sWait kM h1 vM h2 krM h4 vrM h5 cc0_scratch3 cc0_scratch4 c j k) := by
  unfold sWait sPost
  iintro ⟨⟨#Hctx, HO⟩, ⟨⟨Hw, Hw'⟩, ⟨Hx, Hx'⟩⟩, Hc⟩
  iapply (wait_step D K c Q (sem7K j) (b := false) (dst := kS c j) rfl 0 (none_owed _)) $$ [Hw HO]
  · isplitr; · iexact Hctx
    isplitl [Hw]; · iexact Hw
    iexact HO
  iintro ⟨HO, Hd, Hpk⟩
  iapply (wait_step D K c Q (sem7V j) (b := true) (dst := vS c j) rfl 0 (none_owed _)) $$ [Hw' HO]
  · isplitr; · iexact Hctx
    isplitl [Hw']; · iexact Hw'
    iexact HO
  iintro ⟨HO, Hd', Hpv⟩
  iapply (wait_step D K c Q (sem8K j) (b := false) (dst := krS c j) rfl 0 (none_owed _)) $$ [Hx HO]
  · isplitr; · iexact Hctx
    isplitl [Hx]; · iexact Hx
    iexact HO
  iintro ⟨HO, He, Hpkr⟩
  iapply (wait_step D K c Q (sem8V j) (b := true) (dst := vrS c j) rfl 0 (none_owed _)) $$ [Hx' HO]
  · isplitr; · iexact Hctx
    isplitl [Hx']; · iexact Hx'
    iexact HO
  iintro ⟨HO, He', Hpvr⟩
  ihave Hpk := (Entails.of_eq (pay0K D c j)) $$ Hpk
  ihave Hpv := (Entails.of_eq (pay0V D c j)) $$ Hpv
  ihave Hpkr := (Entails.of_eq (pay1K D c j)) $$ Hpkr
  ihave Hpvr := (Entails.of_eq (pay1V D c j)) $$ Hpvr
  iapply Hc
  isplitl [HO]
  · isplitr; · iexact Hctx
    iexact HO
  isplitl [Hd Hd' He He']
  · isplitl [Hd Hd']
    · isplitl [Hd]; · iexact Hd
      iexact Hd'
    isplitl [He]; · iexact He
    iexact He'
  isplitl [Hpk Hpv]
  · isplitl [Hpk]; · iexact Hpk
    iexact Hpv
  isplitl [Hpkr]; · iexact Hpkr
  iexact Hpvr

/-! ## The barrier -/

/-- A unit to a partner's barrier: it hands over the half of the buffers the partner will write. -/
theorem signal_step (Q : PUnit → sProp 𝕄) (b : Bool) {p p' : Dev nD} (hp : p' = p) (O : CellTallies nD τ sig Unit) (k : PUnit → BProg F) :
    iprop(ctx D K ∗ ow c (O + tallyAt (bar p) () 1) ∗ dutyTok ER (bar p) 0 b ∗ barPay p b)
      ⊢ iprop((ow c O -∗ WP c Q (k ⟨⟩)) -∗ WP c Q (.op (.semSignal (p' : Thread nD τ) barrier0 (1 : ℕ)) k)) := by
  subst hp
  iintro ⟨#Hctx, ⟨%W, HO⟩, Ht, Hpay⟩ Hk
  iapply (Rounds.wp_signal 𝒱₀ ER (Rd D) (c : Thread nD τ) none (dst := (p' : Thread nD τ)) (sem := barrier0) (r := 0) (d := b) (κ := K (bar p'))
      (by rw [duties_bar]; cases b <;> decide) (amount_bar D p' b) () O rfl) $$ [HO Ht Hpay]
  · isplitr; · iapply (ctx_bar D K p'); iexact Hctx
    isplitl [HO]; · iexact HO
    isplitl [Ht]; · iexact Ht
    isplitl [Hpay]; · rw [payload_bar]; iexact Hpay
    iapply (ctx_reached D K p'); iexact Hctx
  iintro HO
  iapply Hk
  iexists W; iexact HO

theorem barrier_step (Q : PUnit → sProp 𝕄) (k : BProg F) :
    iprop((ctx D K ∗ ow c (O₀ c)) ∗ ((dutyTok ER (bar (yp c)) 0 false ∗ dutyTok ER (bar (xp c)) 0 true) ∗ (barPay (yp c) false ∗ barPay (xp c) true)
          ∗ (cred (tallyAt (bar c) () 2) ∗ atPos ER (bar c) 0 ∅ 0))
        ∗ (((ctx D K ∗ ow c (rem (xp c) 3 0 + rem (yp c) 2 0)) ∗ (atPos ER (bar c) 1 ∅ 0 ∗ barPay c false ∗ barPay c true)) -∗ WP c Q k))
      ⊢ WP c Q (barrier c k) := by
  unfold O₀
  show _ ⊢ WP c Q (.op (.semSignal (⟨k0_dev1 c, k0_dev1_lt c⟩ : Dev nD) barrier0 (1 : ℕ)) fun _ =>
    .op (.semSignal (⟨k0_dev2 c, k0_dev2_lt c⟩ : Dev nD) barrier0 (1 : ℕ)) fun _ =>
    .op (.semWait barrier0 (2 : ℕ)) fun _ => k)
  iintro ⟨⟨#Hctx, HO⟩, ⟨⟨Ht, Ht'⟩, ⟨Hp, Hp'⟩, ⟨Hcr, Hat⟩⟩, Hc⟩
  iapply (signal_step D K c Q false (p := yp c) (dev1_eq c) (rem (xp c) 3 0 + rem (yp c) 2 0 + tallyAt (bar (xp c)) () 1) _) $$ [HO Ht Hp]
  · isplitr; · iexact Hctx
    isplitl [HO]; · iexact HO
    isplitl [Ht]; · iexact Ht
    iexact Hp
  iintro HO
  iapply (signal_step D K c Q true (p := xp c) (dev2_eq c) (rem (xp c) 3 0 + rem (yp c) 2 0) _) $$ [HO Ht' Hp']
  · isplitr; · iexact Hctx
    isplitl [HO]; · iexact HO
    isplitl [Ht']; · iexact Ht'
    iexact Hp'
  iintro ⟨%W, HO⟩
  iapply (Rounds.wp_wait_rest_token 𝒱₀ ER (Rd D) (c : Thread nD τ) none (κ := K (bar c))
      (wpE_semWait_eq 𝒱₀ (c : Thread nD τ) none Set.univ) (Set.mem_univ _) () (O := rem (xp c) 3 0 + rem (yp c) 2 0) (W := W) (R := 0) (m := 0) (T := ∅)
      ((Nat.zero_add 2).trans (expect_bar D c).symm)) $$ [Hcr HO Hat]
  · isplitr; · iapply (ctx_bar D K c); iexact Hctx
    isplitl [Hcr]; · iexact Hcr
    isplitl [HO]; · iexact HO
    isplitr
    · iapply (mayWait c (.reg barrier0) 1 (le_of_eq (lv_bar c ())) _ (fun g u h => by
        rcases add_pos_cases h with h | h
        · exact rem_lev (by decide) g u h
        · exact rem_lev (by decide) g u h))
      iapply (ctx_lev D K); iexact Hctx
    iexact Hat
  iintro ⟨HO, Hat, -, Hpay⟩
  iapply Hc
  isplitl [HO]
  · isplitr; · iexact Hctx
    iexists _; iexact HO
  isplitl [Hat]; · iexact Hat
  iapply (Entails.of_eq (rest_bar D c)); iexact Hpay

end Cert.KernelIdeal.Attn

end
-- ==== Proof.BodyRun.lean ====
/- The whole body on one device: from what a device holds at the kernel's entry to its result. -/
module

public import proofs.«01_k».proof.Proof.Pieces

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev all {n : ℕ} (P : Fin n → sProp 𝕄) : sProp 𝕄 := bigSep Finset.univ P

theorem all_mono {n : ℕ} {P Q : Fin n → sProp 𝕄} (h : ∀ i, P i ⊢ Q i) : all P ⊢ all Q := bigSep_mono fun i _ => h i
theorem all_sep {n : ℕ} (P Q : Fin n → sProp 𝕄) : (all fun i => iprop(P i ∗ Q i)) = iprop(all P ∗ all Q) := bigSep_sep' _ P Q
theorem all_sep3 {n : ℕ} (P Q R : Fin n → sProp 𝕄) : (all fun i => iprop(P i ∗ Q i ∗ R i)) = iprop(all P ∗ all Q ∗ all R) := by
  rw [all_sep P fun i => iprop(Q i ∗ R i), all_sep Q R]

/-! ## Buffers in parts -/

section Parts

variable {ℓ : Loc nD τ sig} {q : PosShare TreeShare} {f : Buf (Elt F) ℓ}

theorem share_eq {I : Finset (Idx ℓ)} : ((ℓ ↦[I]{fullShare} f) : sProp 𝕄) = iprop((ℓ ↦[I]{qL} f) ∗ ℓ ↦[I]{qR} f) :=
  BI.Entails.antisymm split_share.1 split_share.2

theorem union_eq {I J S : Finset (Idx ℓ)} (h : Disjoint I J) (hS : I ∪ J = S) :
    ((ℓ ↦[S]{q} f) : sProp 𝕄) = iprop((ℓ ↦[I]{q} f) ∗ ℓ ↦[J]{q} f) := by
  subst hS; exact BI.Entails.antisymm (pointsTo_union h).1 (pointsTo_union h).2

theorem parts_eq {n : ℕ} {S : Finset (Idx ℓ)} (I : Fin n → Finset (Idx ℓ)) (h : ∀ t t', t ≠ t' → Disjoint (I t) (I t'))
    (hS : Finset.univ.biUnion I = S) : ((ℓ ↦[S]{q} f) : sProp 𝕄) = bigSep Finset.univ fun t => ℓ ↦[I t]{q} f := by
  subst hS; exact pointsTo_biUnion Finset.univ I fun t _ t' _ => h t t'

/-- A part at contents not chosen, in parts at contents not chosen. -/
theorem parts_any {n : ℕ} {S : Finset (Idx ℓ)} (I : Fin n → Finset (Idx ℓ)) (h : ∀ t t', t ≠ t' → Disjoint (I t) (I t'))
    (hS : Finset.univ.biUnion I = S) :
    (iprop(∃ f : Buf (Elt F) ℓ, ℓ ↦[S]{q} f) : sProp 𝕄) ⊢ bigSep Finset.univ fun t => iprop(∃ f : Buf (Elt F) ℓ, ℓ ↦[I t]{q} f) := by
  have hm : ∀ g : Buf (Elt F) ℓ, ((ℓ ↦[S]{q} g) : sProp 𝕄) ⊢ bigSep Finset.univ fun t => iprop(∃ f : Buf (Elt F) ℓ, ℓ ↦[I t]{q} f) := fun g => by
    rw [parts_eq I h hS]
    exact all_mono fun t => by iintro H; iexists g; iexact H
  iintro ⟨%g, H⟩
  iapply (hm g); iexact H

end Parts

theorem heads_disjoint (n : ℕ) (i i' : Fin 16) (h : i ≠ i') : Disjoint (hd n i.val) (hd n i'.val) := by
  rw [Finset.disjoint_left]; intro x hx hx'
  rw [mem_hd] at hx hx'; exact h (Fin.ext (hx.symm.trans hx'))
theorem heads_union (n : ℕ) : (Finset.univ.biUnion fun i : Fin 16 => hd n i.val) = Finset.univ := by
  ext x
  simp only [Finset.mem_biUnion, Finset.mem_univ, _root_.true_and, mem_hd, iff_true]
  exact ⟨x 0, rfl⟩

/-- Sixteen heads are eight pairs. -/
theorem pairs_eq (P : ℕ → sProp 𝕄) :
    (bigSep Finset.univ fun i : Fin 16 => P i.val) = bigSep Finset.univ fun j : Fin 8 => iprop(P (2 * j.val) ∗ P (2 * j.val + 1)) := by
  rw [bigSep_univ_equiv (finProdFinEquiv : Fin 8 × Fin 2 ≃ Fin 16) (fun i : Fin 16 => P i.val), bigSep_univ_prod]
  refine bigSep_congr fun j _ => ?_
  rw [bigSep_fin_two]
  show iprop(P (0 + 2 * j.val) ∗ P (1 + 2 * j.val)) = _
  rw [Nat.zero_add, Nat.add_comm 1]

/-- A family over the counters, by family of counters and chunk. -/
theorem fams_eq (P : Fin 4 × Fin 8 × Bool → sProp 𝕄) :
    bigSep Finset.univ P
      = iprop((bigSep Finset.univ fun j : Fin 8 => iprop(P (0, j, false) ∗ P (0, j, true))) ∗ (bigSep Finset.univ fun j : Fin 8 => iprop(P (1, j, false) ∗ P (1, j, true)))
        ∗ (bigSep Finset.univ fun j : Fin 8 => iprop(P (2, j, false) ∗ P (2, j, true))) ∗ (bigSep Finset.univ fun j : Fin 8 => iprop(P (3, j, false) ∗ P (3, j, true)))) := by
  have h2 : ∀ f : Fin 4, (bigSep Finset.univ fun b : Fin 8 × Bool => P (f, b)) = bigSep Finset.univ fun j : Fin 8 => iprop(P (f, j, false) ∗ P (f, j, true)) := fun f => by
    rw [bigSep_univ_prod]
    refine bigSep_congr fun j _ => ?_
    rw [show (Finset.univ : Finset Bool) = {false, true} from by decide, bigSep_insert (by decide), bigSep_singleton]; rfl
  rw [bigSep_univ_prod, show (Finset.univ : Finset (Fin 4)) = {0, 1, 2, 3} from by decide, bigSep_insert (by decide), bigSep_insert (by decide),
    bigSep_insert (by decide), bigSep_singleton, h2, h2, h2, h2]
  rfl

variable (D : Ins F) (K : GSem nD τ sig → ℕ) (c : Dev nD)

theorem chK (c' : Dev nD) (lo : ℕ) (q) (f : B64 F) : pK c' lo 256 q f = bigSep Finset.univ fun j : Fin 8 => pK c' (lo + 32 * j.val) 32 q f :=
  parts_eq _ (chunks_disjoint 64 lo) (chunks_union 64 lo)
theorem chV (c' : Dev nD) (lo : ℕ) (q) (f : B65 F) : pV c' lo 256 q f = bigSep Finset.univ fun j : Fin 8 => pV c' (lo + 32 * j.val) 32 q f :=
  parts_eq _ (chunks_disjoint 65 lo) (chunks_union 65 lo)
theorem chKr (c' : Dev nD) (lo : ℕ) (q) (f : B64 F) : pKr c' lo 256 q f = bigSep Finset.univ fun j : Fin 8 => pKr c' (lo + 32 * j.val) 32 q f :=
  parts_eq _ (chunks_disjoint 64 lo) (chunks_union 64 lo)
theorem chVr (c' : Dev nD) (lo : ℕ) (q) (f : B65 F) : pVr c' lo 256 q f = bigSep Finset.univ fun j : Fin 8 => pVr c' (lo + 32 * j.val) 32 q f :=
  parts_eq _ (chunks_disjoint 65 lo) (chunks_union 65 lo)
theorem chKrAny (c' : Dev nD) (lo : ℕ) : (iprop(∃ f, pKr c' lo 256 fullShare f) : sProp 𝕄) ⊢ bigSep Finset.univ fun j : Fin 8 => iprop(∃ f, pKr c' (lo + 32 * j.val) 32 fullShare f) :=
  parts_any (ℓ := lKr c') (q := fullShare) (fun j : Fin 8 => rows 64 (lo + 32 * j.val) 32) (chunks_disjoint 64 lo) (chunks_union 64 lo)
theorem chVrAny (c' : Dev nD) (lo : ℕ) : (iprop(∃ f, pVr c' lo 256 fullShare f) : sProp 𝕄) ⊢ bigSep Finset.univ fun j : Fin 8 => iprop(∃ f, pVr c' (lo + 32 * j.val) 32 fullShare f) :=
  parts_any (ℓ := lVr c') (q := fullShare) (fun j : Fin 8 => rows 65 (lo + 32 * j.val) 32) (chunks_disjoint 65 lo) (chunks_union 65 lo)

/-- The keys: a share kept for the heads, and the other's two halves, the sent one in chunks. -/
theorem wholeK (f : B64 F) : ((lK c ↦[Finset.univ]{fullShare} f) : sProp 𝕄)
    = iprop((lK c ↦[Finset.univ]{qL} f) ∗ (bigSep Finset.univ fun j : Fin 8 => pK c (myRow c + 32 * j.val) 32 qR f) ∗ pK c (otRow c) 256 qR f) := by
  rw [share_eq, ← chK, union_eq (ℓ := lK c) (q := qR) (f := f) (halves_disjoint 64 c) (halves_union 64 c)]
theorem wholeV (f : B65 F) : ((lV c ↦[Finset.univ]{fullShare} f) : sProp 𝕄)
    = iprop((lV c ↦[Finset.univ]{qL} f) ∗ (bigSep Finset.univ fun j : Fin 8 => pV c (myRow c + 32 * j.val) 32 qR f) ∗ pV c (otRow c) 256 qR f) := by
  rw [share_eq, ← chV, union_eq (ℓ := lV c) (q := qR) (f := f) (halves_disjoint 65 c) (halves_union 65 c)]
theorem wholeKr (f : B64 F) : ((lKr c ↦[Finset.univ]{fullShare} f) : sProp 𝕄) = iprop(pKr c (myRow c) 256 fullShare f ∗ pKr c (otRow c) 256 fullShare f) :=
  union_eq (halves_disjoint 64 c) (halves_union 64 c)
theorem wholeVr (f : B65 F) : ((lVr c ↦[Finset.univ]{fullShare} f) : sProp 𝕄) = iprop(pVr c (myRow c) 256 fullShare f ∗ pVr c (otRow c) 256 fullShare f) :=
  union_eq (halves_disjoint 65 c) (halves_union 65 c)
theorem wholeA (f : B65f F) : ((lA c ↦[Finset.univ]{fullShare} f) : sProp 𝕄) = bigSep Finset.univ fun i : Fin 16 => pA c i.val f :=
  parts_eq _ (heads_disjoint 65) (heads_union 65)
theorem wholeO (f : B64f F) : ((lO c ↦[Finset.univ]{fullShare} f) : sProp 𝕄) = bigSep Finset.univ fun i : Fin 16 => pO c i.val f :=
  parts_eq _ (heads_disjoint 64) (heads_union 64)
theorem anyA : (iprop(∃ f, lA c ↦[Finset.univ]{fullShare} f) : sProp 𝕄) ⊢ bigSep Finset.univ fun j : Fin 8 => iprop((∃ f, pA c (2 * j.val) f) ∗ (∃ f, pA c (2 * j.val + 1) f)) := by
  rw [← pairs_eq fun i => iprop(∃ f, pA c i f)]
  exact parts_any _ (heads_disjoint 65) (heads_union 65)
theorem anyO : (iprop(∃ f, lO c ↦[Finset.univ]{fullShare} f) : sProp 𝕄) ⊢ bigSep Finset.univ fun i : Fin 16 => iprop(∃ f, pO c i.val f) :=
  parts_any _ (heads_disjoint 64) (heads_union 64)

/-! ## Rights -/

/-- The tokens of chunk `j`'s copies over y, and over x; the counters of a family before their waits, and that they are open. -/
def tokY (j : Fin 8) : sProp 𝕄 :=
  iprop((dutyTok ER (cell c 0 j false) 0 false ∗ dutyTok ER (cell (yp c) 2 j false) 0 false) ∗ (dutyTok ER (cell c 0 j true) 0 false ∗ dutyTok ER (cell (yp c) 2 j true) 0 false))
def tokX (j : Fin 8) : sProp 𝕄 :=
  iprop((dutyTok ER (cell c 1 j false) 0 false ∗ dutyTok ER (cell (xp c) 3 j false) 0 false) ∗ (dutyTok ER (cell c 1 j true) 0 false ∗ dutyTok ER (cell (xp c) 3 j true) 0 false))
abbrev opn (c : Dev nD) (f : Fin 4) (j : Fin 8) : sProp 𝕄 := iprop(reached ER (cell c f j false) 0 ∗ reached ER (cell c f j true) 0)
abbrev at0 (f : Fin 4) (j : Fin 8) : sProp 𝕄 := iprop(atPos ER (cell c f j false) 0 ∅ 0 ∗ atPos ER (cell c f j true) 0 ∅ 0)

theorem ySendPre_intro :
    iprop((all fun j : Fin 8 => pK c (myRow c + 32 * j.val) 32 qR (D.k c)) ∗ (all fun j : Fin 8 => pV c (myRow c + 32 * j.val) 32 qR (D.v c))
      ∗ (all fun j : Fin 8 => iprop(∃ f, pKr (yp c) (myRow c + 32 * j.val) 32 fullShare f)) ∗ (all fun j : Fin 8 => iprop(∃ f, pVr (yp c) (myRow c + 32 * j.val) 32 fullShare f))
      ∗ all (tokY c) ∗ all (opn c 0) ∗ all (opn (yp c) 2)) ⊢ all (ySendPre D c) := by
  unfold all
  rw [← bigSep_sep', ← bigSep_sep', ← bigSep_sep', ← bigSep_sep', ← bigSep_sep', ← bigSep_sep']
  refine all_mono fun j => ?_
  unfold tokY ySendPre
  iintro ⟨H1, H2, H3, H4, ⟨⟨T1, T2⟩, ⟨T3, T4⟩⟩, ⟨R1, R2⟩, ⟨R3, R4⟩⟩
  isplitl [H1 H2]
  · isplitl [H1]; · iexact H1
    iexact H2
  isplitl [H3 H4]
  · isplitl [H3]; · iexact H3
    iexact H4
  isplitl [T1 T2 R1 R3]
  · isplitl [T1 R1]
    · isplitl [T1]; · iexact T1
      iexact R1
    isplitl [T2]; · iexact T2
    iexact R3
  isplitl [T3 R2]
  · isplitl [T3]; · iexact T3
    iexact R2
  isplitl [T4]; · iexact T4
  iexact R4

theorem todo_intro (f : Fin 4) : iprop(all (sCred c f) ∗ all (at0 c f)) ⊢ (all (todo c f) : sProp 𝕄) := by
  unfold all
  rw [← bigSep_sep']
  refine all_mono fun j => ?_
  iintro ⟨⟨H1, H2⟩, ⟨A1, A2⟩⟩
  isplitl [H1 A1]
  · isplitl [H1]; · iexact H1
    iexact A1
  isplitl [H2]; · iexact H2
  iexact A2

theorem midPre_intro :
    iprop(all (todo c 2)
      ∗ (all fun j : Fin 8 => iprop(∃ f, pKr (xp c) (myRow c + 32 * j.val) 32 fullShare f)) ∗ (all fun j : Fin 8 => iprop(∃ f, pVr (xp c) (myRow c + 32 * j.val) 32 fullShare f))
      ∗ (all (tokX c) ∗ all (opn c 1) ∗ all (opn (xp c) 3))
      ∗ (all fun j : Fin 8 => iprop((∃ f, pA c (2 * j.val) f) ∗ (∃ f, pA c (2 * j.val + 1) f)))) ⊢ (all (midPre c) : sProp 𝕄) := by
  unfold all
  rw [← bigSep_sep', ← bigSep_sep', ← bigSep_sep', ← bigSep_sep', ← bigSep_sep', ← bigSep_sep']
  refine all_mono fun j => ?_
  unfold tokX midPre
  iintro ⟨H1, H3, H4, ⟨⟨⟨T1, T2⟩, ⟨T3, T4⟩⟩, ⟨R1, R2⟩, ⟨R3, R4⟩⟩, HA⟩
  isplitl [H1]; · iexact H1
  isplitl [H3 H4]
  · isplitl [H3]; · iexact H3
    iexact H4
  isplitr [HA]
  · isplitl [T1 T2 R1 R3]
    · isplitl [T1 R1]
      · isplitl [T1]; · iexact T1
        iexact R1
      isplitl [T2]; · iexact T2
      iexact R3
    isplitl [T3 R2]
    · isplitl [T3]; · iexact T3
      iexact R2
    isplitl [T4]; · iexact T4
    iexact R4
  iexact HA

theorem midPost_elim : all (midPost D c)
    ⊢ iprop(all (done c 2) ∗ all (sCred c 1) ∗ (pKr c (myRow c) 256 qL (KR D c) ∗ pVr c (myRow c) 256 qL (VR D c)) ∗ all fun i : Fin 16 => pA c i.val (LOC D c)) := by
  rw [chKr, chVr, ← all_sep (fun j : Fin 8 => pKr c (myRow c + 32 * j.val) 32 qL (KR D c))]
  refine (Entails.of_eq ?_).trans (sep_mono_right (sep_mono_right (sep_mono_right (Entails.of_eq (pairs_eq fun i => pA c i (LOC D c)).symm))))
  rw [← all_sep (fun j : Fin 8 => iprop(pKr c (myRow c + 32 * j.val) 32 qL (KR D c) ∗ pVr c (myRow c + 32 * j.val) 32 qL (VR D c))), ← all_sep3 (done c 2) (sCred c 1)]
  rfl

theorem xPost_elim : all (xPost D c)
    ⊢ iprop(all (done c 3) ∗ pKr c (otRow c) 256 fullShare (KR D c) ∗ pVr c (otRow c) 256 fullShare (VR D c)) := by
  rw [chKr, chVr]
  exact Entails.of_eq (all_sep3 (done c 3) _ _)

theorem sPost_elim : all (sPost D c)
    ⊢ iprop((all (done c 0) ∗ all (done c 1))
      ∗ ((all fun j : Fin 8 => pK c (myRow c + 32 * j.val) 32 qR (D.k c)) ∗ (all fun j : Fin 8 => pV c (myRow c + 32 * j.val) 32 qR (D.v c)))
      ∗ (pKr c (myRow c) 256 qR (KR D c) ∗ pVr c (myRow c) 256 qR (VR D c))) := by
  rw [chKr, chVr, ← all_sep (done c 0), ← all_sep (fun j : Fin 8 => pK c (myRow c + 32 * j.val) 32 qR (D.k c)),
    ← all_sep (fun j : Fin 8 => pKr c (myRow c + 32 * j.val) 32 qR (KR D c)), ← all_sep3 (fun j => iprop(done c 0 j ∗ done c 1 j))]
  rfl

/-! ## What the barrier hands over -/

theorem barPay_y : iprop((∃ f, pKr c (myRow c) 256 fullShare f) ∗ (∃ f, pVr c (myRow c) 256 fullShare f) ∗ all (opn c 2)) ⊢ (barPay (yp c) false : sProp 𝕄) := by
  unfold barPay
  rw [show nb false (yp c) = c from yp_yp c, myRow_yp]
  exact Entails.refl _
theorem barPay_x : iprop((∃ f, pKr c (otRow c) 256 fullShare f) ∗ (∃ f, pVr c (otRow c) 256 fullShare f) ∗ all (opn c 3)) ⊢ (barPay (xp c) true : sProp 𝕄) := by
  unfold barPay
  rw [show nb true (xp c) = c from xp_xp c, myRow_xp]
  exact Entails.refl _
theorem barPay_elim (b : Bool) : (barPay c b : sProp 𝕄)
    ⊢ iprop((all fun j : Fin 8 => iprop(∃ f, pKr (nb b c) (myRow c + 32 * j.val) 32 fullShare f)) ∗ (all fun j : Fin 8 => iprop(∃ f, pVr (nb b c) (myRow c + 32 * j.val) 32 fullShare f))
      ∗ all (opn (nb b c) (if b then 3 else 2))) := by
  unfold barPay
  iintro ⟨H1, H2, H3⟩
  isplitl [H1]; · iapply (chKrAny (nb b c) (myRow c)); iexact H1
  isplitl [H2]; · iapply (chVrAny (nb b c) (myRow c)); iexact H2
  iexact H3

/-! ## The run -/

/-- What a device brings of the protocol, its counters open. -/
def rights : sProp 𝕄 :=
  iprop((dutyTok ER (bar (yp c)) 0 false ∗ dutyTok ER (bar (xp c)) 0 true) ∗ (cred (tallyAt (bar c) () 2) ∗ atPos ER (bar c) 0 ∅ 0)
    ∗ (all (tokY c) ∗ all (tokX c)) ∗ (all (at0 c 0) ∗ all (at0 c 1) ∗ all (at0 c 2) ∗ all (at0 c 3))
    ∗ (all (opn c 0) ∗ all (opn c 1) ∗ all (opn c 2) ∗ all (opn c 3)) ∗ (all (sCred c 2) ∗ all (sCred c 3)))

/-- Its counters back at nought. -/
def zeros : sProp 𝕄 :=
  iprop(semVal (bar c) 0 ∗ bigSep Finset.univ fun p : Fin 4 × Fin 8 × Bool => semVal (cell c p.1 p.2.1 p.2.2) 0)

/-- Its three scratch buffers at contents not chosen. -/
def scratch : sProp 𝕄 :=
  iprop((∃ f, lKr c ↦[Finset.univ]{fullShare} f) ∗ (∃ f, lVr c ↦[Finset.univ]{fullShare} f) ∗ (∃ f, lA c ↦[Finset.univ]{fullShare} f))

/-- Its three arrays of input. -/
def inputs : sProp 𝕄 :=
  iprop(wQ D c ∗ (lK c ↦[Finset.univ]{fullShare} D.k c) ∗ (lV c ↦[Finset.univ]{fullShare} D.v c))

theorem close_all :
    iprop(ctx D K ∗ atPos ER (bar c) 1 ∅ 0 ∗ (all (done c 0) ∗ all (done c 1) ∗ all (done c 2) ∗ all (done c 3))) ⊢ (|={Set.univ}=> zeros c : sProp 𝕄) := by
  have hd := fams_eq (F := F) fun p : Fin 4 × Fin 8 × Bool => iprop(atPos ER (cell c p.1 p.2.1 p.2.2) 1 ∅ 0)
  have hc : ∀ p : Fin 4 × Fin 8 × Bool, iprop(ctx D K ∗ atPos ER (cell c p.1 p.2.1 p.2.2) 1 ∅ 0) ⊢ (|={Set.univ}=> semVal (cell c p.1 p.2.1 p.2.2) 0 : sProp 𝕄) := fun p => by
    iintro ⟨#H, Ha⟩
    iapply (Rounds.cell_close ER (Rd D) (Set.mem_univ (K (cell c p.1 p.2.1 p.2.2))) id (duties_later D (cell c p.1 p.2.1 p.2.2)))
    isplitr; · iapply (ctx_cell D K c p.1 p.2.1 p.2.2); iexact H
    iexact Ha
  have hs : iprop(ctx D K ∗ bigSep Finset.univ fun p : Fin 4 × Fin 8 × Bool => iprop(atPos ER (cell c p.1 p.2.1 p.2.2) 1 ∅ 0))
      ⊢ (|={Set.univ}=> bigSep Finset.univ fun p : Fin 4 × Fin 8 × Bool => semVal (cell c p.1 p.2.1 p.2.2) 0 : sProp 𝕄) :=
    (bigSep_with_persistent fun p _ => hc p).trans (bigSep_fupd _ _)
  rw [hd] at hs
  unfold zeros
  iintro ⟨#H, Hb, Hall⟩
  imod (Rounds.cell_close ER (Rd D) (g := bar c) (Set.mem_univ (K (bar c))) id (duties_later D (bar c))) $$ [Hb] with Hz
  · isplitr; · iapply (ctx_bar D K c); iexact H
    iexact Hb
  imod hs $$ [Hall] with Hzs
  · isplitr; · iexact H
    iexact Hall
  imodintro
  isplitl [Hz]; · iexact Hz
  iexact Hzs

theorem split_half {ℓ : Loc nD τ sig} {I J : Finset (Idx ℓ)} (h : Disjoint I J) (hS : I ∪ J = Finset.univ) :
    (iprop(∃ f : Buf (Elt F) ℓ, ℓ ↦[Finset.univ]{fullShare} f) : sProp 𝕄)
      ⊢ iprop((∃ f : Buf (Elt F) ℓ, ℓ ↦[I]{fullShare} f) ∗ (∃ f : Buf (Elt F) ℓ, ℓ ↦[J]{fullShare} f)) := by
  have hm : ∀ g : Buf (Elt F) ℓ, ((ℓ ↦[Finset.univ]{fullShare} g) : sProp 𝕄) ⊢ iprop((∃ f : Buf (Elt F) ℓ, ℓ ↦[I]{fullShare} f) ∗ (∃ f : Buf (Elt F) ℓ, ℓ ↦[J]{fullShare} f)) := fun g => by
    rw [union_eq h hS]
    iintro ⟨H1, H2⟩
    isplitl [H1]; · iexists g; iexact H1
    iexists g; iexact H2
  iintro ⟨%g, H⟩
  iapply (hm g); iexact H

theorem dev_step (Q : PUnit → sProp 𝕄) (k : Dev nD → BProg F) : WP c Q (k c) ⊢ WP c Q (.op .deviceId k) := by
  unfold WP
  rw [wp_deviceId]

theorem ret_step (Q : PUnit → sProp 𝕄) : (|={Set.univ}=> Q ⟨⟩ : sProp 𝕄) ⊢ WP c Q (.ret ⟨⟩) := by
  unfold WP
  rw [wp_ret]

set_option maxHeartbeats 1600000 in
theorem bodyRun (Q : PUnit → sProp 𝕄) (h1 h2 h4 h5) :
    iprop(((ctx D K ∗ ow c (O₀ c)) ∗ rights c ∗ inputs D c ∗ (∃ f, lO c ↦[Finset.univ]{fullShare} f) ∗ scratch c)
        ∗ ((ow c 0 ∗ zeros c ∗ inputs D c ∗ (lO c ↦[Finset.univ]{fullShare} OUT D c) ∗ scratch c) -∗ Q ⟨⟩))
      ⊢ WP c Q (body qM kM h1 vM h2 oM krM h4 vrM h5 aM cc0_scratch3 cc0_scratch4 cc0_scratch5 cc0_scratch6) := by
  unfold body
  unfold inputs rights scratch
  rw [wholeK, wholeV]
  iintro ⟨⟨⟨#Hctx, HO⟩, ⟨Htb, Hbar, ⟨HtY, HtX⟩, ⟨Ha0, Ha1, Ha2, Ha3⟩, ⟨#Hr0, #Hr1, #Hr2, #Hr3⟩, ⟨Hc2, Hc3⟩⟩,
    ⟨Hq, ⟨HkL, HkM, HkO⟩, ⟨HvL, HvM, HvO⟩⟩, Ho, ⟨Hkr, Hvr, Ha⟩⟩, Hend⟩
  -- the received buffers' halves go to the partners
  ihave Hkr := (split_half (ℓ := lKr c) (halves_disjoint 64 c) (halves_union 64 c)) $$ Hkr
  ihave Hvr := (split_half (ℓ := lVr c) (halves_disjoint 65 c) (halves_union 65 c)) $$ Hvr
  icases Hkr with ⟨Hkr, Hkr'⟩
  icases Hvr with ⟨Hvr, Hvr'⟩
  ihave Hpy := (barPay_y c) $$ [Hkr Hvr]
  · isplitl [Hkr]; · iexact Hkr
    isplitl [Hvr]; · iexact Hvr
    iexact Hr2
  ihave Hpx := (barPay_x c) $$ [Hkr' Hvr']
  · isplitl [Hkr']; · iexact Hkr'
    isplitl [Hvr']; · iexact Hvr'
    iexact Hr3
  iapply (dev_step c Q _)
  iapply (barrier_step D K c Q _)
  isplitl [HO]
  · isplitr; · iexact Hctx
    iexact HO
  isplitl [Htb Hpy Hpx Hbar]
  · isplitl [Htb]; · iexact Htb
    isplitl [Hpy Hpx]
    · isplitl [Hpy]; · iexact Hpy
      iexact Hpx
    iexact Hbar
  iintro ⟨⟨-, HO⟩, HatB, Hby, Hbx⟩
  ihave Hby := (barPay_elim c false) $$ Hby
  ihave Hbx := (barPay_elim c true) $$ Hbx
  icases Hby with ⟨Hyk, Hyv, #Hyr⟩
  icases Hbx with ⟨Hxk, Hxv, #Hxr⟩
  -- the sends over y
  iapply (wp_loop _ (WP c Q) (fun i => iprop(ctx D K ∗ ow c (rem (xp c) 3 0 + rem (yp c) 2 i))) (ySendPre D c) (sCred c 0)
    (fun j k => ySend_step D K c j Q k h1 h2 h4 h5) rfl _)
  isplitl [HO]
  · isplitr; · iexact Hctx
    iexact HO
  isplitl [HkM HvM Hyk Hyv HtY]
  · iapply (ySendPre_intro D c)
    isplitl [HkM]; · iexact HkM
    isplitl [HvM]; · iexact HvM
    isplitl [Hyk]; · iexact Hyk
    isplitl [Hyv]; · iexact Hyv
    isplitl [HtY]; · iexact HtY
    isplitr; · iexact Hr0
    iexact Hyr
  iintro ⟨⟨-, HO⟩, Hc0⟩
  ihave HO := (show ow c (rem (xp c) 3 0 + rem (yp c) 2 8) ⊢ ow c (rem (xp c) 3 0) from by rw [rem_end, add_zero]) $$ HO
  -- the chunks over y, sent on, and the local heads
  ihave Ha := (anyA c) $$ Ha
  ihave Hw2 := (todo_intro c 2) $$ [Hc2 Ha2]
  · isplitl [Hc2]; · iexact Hc2
    iexact Ha2
  iapply (wp_loop _ (WP c Q) (fun i => iprop(ctx D K ∗ ow c (rem (xp c) 3 i) ∗ (wQ D c ∗ wK D c ∗ wV D c))) (midPre c) (midPost D c)
    (fun j k => mid_step D K c j Q k h1 h2 h4 h5) rfl _)
  isplitl [HO Hq HkL HvL]
  · isplitr; · iexact Hctx
    isplitl [HO]; · iexact HO
    isplitl [Hq]; · iexact Hq
    isplitl [HkL]; · iexact HkL
    iexact HvL
  isplitl [Hw2 Hxk Hxv HtX Ha]
  · iapply (midPre_intro c)
    isplitl [Hw2]; · iexact Hw2
    isplitl [Hxk]; · iexact Hxk
    isplitl [Hxv]; · iexact Hxv
    isplitl [HtX]
    · isplitl [HtX]; · iexact HtX
      isplitr; · iexact Hr1
      iexact Hxr
    iexact Ha
  iintro ⟨⟨-, HO, ⟨Hq, HkL, HvL⟩⟩, Hmid⟩
  ihave HO := (show ow c (rem (xp c) 3 8) ⊢ ow c 0 from by rw [rem_end]) $$ HO
  ihave Hmid := (midPost_elim D c) $$ Hmid
  icases Hmid with ⟨Hd2, Hc1, ⟨HkrL, HvrL⟩, Ha⟩
  -- the heads against the rows that came over y
  iapply (wp_loop _ (WP c Q) (fun _ => half D c (myRow c) qL) (fun i => pA c i.val (LOC D c)) (fun i => pA c i.val (MID D c))
    (fun i k => mineHead_step D c Q i k) rfl _)
  isplitl [Hq HkrL HvrL]
  · isplitl [Hq]; · iexact Hq
    isplitl [HkrL]; · iexact HkrL
    iexact HvrL
  isplitl [Ha]; · iexact Ha
  iintro ⟨⟨Hq, HkrL, HvrL⟩, Ha⟩
  -- the chunks over x
  ihave Hw3 := (todo_intro c 3) $$ [Hc3 Ha3]
  · isplitl [Hc3]; · iexact Hc3
    iexact Ha3
  iapply (wp_loop _ (WP c Q) (fun _ => iprop(ctx D K ∗ ow c 0)) (todo c 3) (xPost D c) (fun j k => xWait_step D K c j Q k h4 h5) rfl _)
  isplitl [HO]
  · isplitr; · iexact Hctx
    iexact HO
  isplitl [Hw3]; · iexact Hw3
  iintro ⟨⟨-, HO⟩, Hx⟩
  ihave Hx := (xPost_elim D c) $$ Hx
  icases Hx with ⟨Hd3, HkrO, HvrO⟩
  -- the heads against them, and the result
  ihave Ho := (anyO c) $$ Ho
  iapply (wp_loop _ (WP c Q) (fun _ => half D c (otRow c) fullShare) (fun i => iprop(pA c i.val (MID D c) ∗ ∃ f, pO c i.val f))
    (fun i => iprop(pA c i.val (MID D c) ∗ pO c i.val (OUT D c))) (fun i k => otherHead_step D c Q i k) rfl _)
  isplitl [Hq HkrO HvrO]
  · isplitl [Hq]; · iexact Hq
    isplitl [HkrO]; · iexact HkrO
    iexact HvrO
  isplitl [Ha Ho]
  · iapply (Entails.of_eq (all_sep (fun i : Fin 16 => pA c i.val (MID D c)) (fun i : Fin 16 => iprop(∃ f, pO c i.val f))).symm)
    isplitl [Ha]; · iexact Ha
    iexact Ho
  iintro ⟨⟨Hq, HkrO, HvrO⟩, Hao⟩
  ihave Hao := (Entails.of_eq (all_sep (fun i : Fin 16 => pA c i.val (MID D c)) (fun i : Fin 16 => pO c i.val (OUT D c)))) $$ Hao
  icases Hao with ⟨Ha, Ho⟩
  -- the waits for the sends
  ihave Hw0 := (todo_intro c 0) $$ [Hc0 Ha0]
  · isplitl [Hc0]; · iexact Hc0
    iexact Ha0
  ihave Hw1 := (todo_intro c 1) $$ [Hc1 Ha1]
  · isplitl [Hc1]; · iexact Hc1
    iexact Ha1
  iapply (wp_loop _ (WP c Q) (fun _ => iprop(ctx D K ∗ ow c 0)) (fun j => iprop(todo c 0 j ∗ todo c 1 j)) (sPost D c)
    (fun j k => sWait_step D K c j Q k h1 h2 h4 h5) rfl _)
  isplitl [HO]
  · isplitr; · iexact Hctx
    iexact HO
  isplitl [Hw0 Hw1]
  · iapply (Entails.of_eq (all_sep (todo c 0) (todo c 1)).symm)
    isplitl [Hw0]; · iexact Hw0
    iexact Hw1
  iintro ⟨⟨-, HO⟩, Hs⟩
  ihave Hs := (sPost_elim D c) $$ Hs
  icases Hs with ⟨⟨Hd0, Hd1⟩, ⟨HkM, HvM⟩, ⟨HkrR, HvrR⟩⟩
  -- the counters closed
  iapply (ret_step c Q)
  imod (close_all D K c) $$ [HatB Hd0 Hd1 Hd2 Hd3] with Hz
  · isplitr; · iexact Hctx
    isplitl [HatB]; · iexact HatB
    isplitl [Hd0]; · iexact Hd0
    isplitl [Hd1]; · iexact Hd1
    isplitl [Hd2]; · iexact Hd2
    iexact Hd3
  imodintro
  iapply Hend
  isplitl [HO]; · iexact HO
  isplitl [Hz]; · iexact Hz
  isplitl [Hq HkL HkM HkO HvL HvM HvO]
  · isplitl [Hq]; · iexact Hq
    isplitl [HkL HkM HkO]
    · isplitl [HkL]; · iexact HkL
      isplitl [HkM]; · iexact HkM
      iexact HkO
    isplitl [HvL]; · iexact HvL
    isplitl [HvM]; · iexact HvM
    iexact HvO
  isplitl [Ho]; · iapply (Entails.of_eq (wholeO c (OUT D c)).symm); iexact Ho
  isplitl [HkrL HkrR HkrO]
  · iexists (KR D c)
    iapply (Entails.of_eq (wholeKr c (KR D c)).symm)
    isplitl [HkrL HkrR]
    · iapply (Entails.of_eq (share_eq (ℓ := lKr c) (I := rows 64 (myRow c) 256) (f := KR D c)).symm)
      isplitl [HkrL]; · iexact HkrL
      iexact HkrR
    iexact HkrO
  isplitl [HvrL HvrR HvrO]
  · iexists (VR D c)
    iapply (Entails.of_eq (wholeVr c (VR D c)).symm)
    isplitl [HvrL HvrR]
    · iapply (Entails.of_eq (share_eq (ℓ := lVr c) (I := rows 65 (myRow c) 256) (f := VR D c)).symm)
      isplitl [HvrL]; · iexact HvrL
      iexact HvrR
    iexact HvrO
  iexists (MID D c)
  iapply (Entails.of_eq (wholeA c (MID D c)).symm); iexact Ha

end Cert.KernelIdeal.Attn

end
-- ==== Proof.ProgEq.lean ====
/- The printed body is the body in loops. -/
module

public import proofs.«01_k».proof.Proof.Prog

@[expose] public section

noncomputable section

namespace Cert.KernelIdeal.Attn

open Idealize.ShloMosaic Idealize.SL.Sem
open Cert.KernelIdeal.Gen

variable {F : FTy → Type} [FloatOps F]

set_option maxRecDepth 65536 in
set_option maxHeartbeats 4000000 in
/-- The printed body is the body in loops, by unfolding. -/
theorem cc0_body_eq_body (arg0 : Memref sig .tc .vmem S16x512x64 .bf16) (harg0 : arg0.IsWhole) (arg1 : Memref sig .tc .vmem S16x512x64 .bf16) (harg1 : arg1.IsWhole) (arg2 : Memref sig .tc .vmem S16x512x65 .bf16) (harg2 : arg2.IsWhole) (arg3 : Memref sig .tc .vmem S16x512x64 .f32) (harg3 : arg3.IsWhole) (arg4 : Memref sig .tc .vmem S16x512x64 .bf16) (harg4 : arg4.IsWhole) (arg5 : Memref sig .tc .vmem S16x512x65 .bf16) (harg5 : arg5.IsWhole) (arg6 : Memref sig .tc .vmem S16x512x65 .f32) (harg6 : arg6.IsWhole) (arg7 : DmaSems sig S16) (arg8 : DmaSems sig S16) (arg9 : DmaSems sig S16) (arg10 : DmaSems sig S16) :
    cc0_body (F := F) arg0 harg0 arg1 harg1 arg2 harg2 arg3 harg3 arg4 harg4 arg5 harg5 arg6 harg6 arg7 arg8 arg9 arg10
      = body arg0 arg1 harg1 arg2 harg2 arg3 arg4 harg4 arg5 harg5 arg6 arg7 arg8 arg9 arg10 := rfl

end Cert.KernelIdeal.Attn

end
-- ==== Proof.Region.lean ====
/- The kernel region of the program: its proof data, its body's obligation, and the region as a segment between the host lines. -/
module

public import proofs.«01_k».proof.Proof.BodyRun
public import proofs.«01_k».proof.Proof.ProgEq
public import proofs.«01_k».proof.Proof.Gen.KernelIdeal.Frame
public import Idealize.ShloMosaic.Lib.Pipeline.RegionArraysS
public import Idealize.ShloMosaic.Lib.Pipeline.RegionTalk
public import Idealize.ShloMosaic.Lib.Pipeline.TalkSched
public import Idealize.ShloMosaic.Lib.Pipeline.FrameTail
public import Idealize.ShloMosaic.Lib.Pipeline.CollectiveSegs
public import Idealize.ShloMosaic.Lib.Pipeline.ValueKit

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (owesAt_intro owesAt_elim)
open Idealize.ShloMosaic.Pipeline (Dat BodyObligation)
open Cert.KernelIdeal.Gen

variable {F : FTy → Type} [FloatOps F]

local notation "𝕄" => MT nD τ sig Unit (Elt F) ℕ UU ℕ

/-! ## From launch to the kernel -/

/-- The kernel's own counters. -/
abbrev osem : Fin 4 × Fin 8 × Bool → SemLoc sig := fun p => .dma (fs p.1 p.2.1 p.2.2)

section Rights

variable (D : Ins F) (c : Dev nD)

/-- What a device keeps from launch, its transfer counters not yet open. -/
def linear : sProp 𝕄 :=
  iprop((dutyTok ER (bar (yp c)) 0 false ∗ dutyTok ER (bar (xp c)) 0 true) ∗ atPos ER (bar c) 0 ∅ 0
    ∗ (bigSep Finset.univ fun p : Fin 4 × Fin 8 × Bool => openTok ER (cell c p.1 p.2.1 p.2.2)) ∗ (all (tokY c) ∗ all (tokX c)))

/-- Every cell's invariant under one map of names, and round 0 of every barrier reached. -/
def records (K : GSem nD τ sig → ℕ) : sProp 𝕄 :=
  iprop((bigSep (barCells ∪ scCells) fun g => cellInv ER (Rd D) (K g) g) ∗ bigSep barCells fun g => reached ER g 0)

instance records_persistent (K : GSem nD τ sig → ℕ) : BI.Persistent (records D K) := by unfold records; infer_instance

/-- The credits of what the partners will pay. -/
def credits : sProp 𝕄 := iprop(cred (tallyAt (bar c) () 2) ∗ all (sCred c 2) ∗ all (sCred c 3))

def Tk : sProp 𝕄 := iprop((∃ K, records D K ∗ linear c) ∗ credits c)
def Xk : sProp 𝕄 := iprop(∃ K, ctx D K ∗ rights c)
def Yk : sProp 𝕄 := semVal (bar c) 0

theorem open_cells (K : GSem nD τ sig → ℕ) :
    iprop(ctx D K ∗ bigSep Finset.univ fun p : Fin 4 × Fin 8 × Bool => iprop(openTok ER (cell c p.1 p.2.1 p.2.2) ∗ semVal (cell c p.1 p.2.1 p.2.2) 0))
      ⊢ (|={Set.univ}=> bigSep Finset.univ fun p : Fin 4 × Fin 8 × Bool =>
        iprop(atPos ER (cell c p.1 p.2.1 p.2.2) 0 ∅ 0 ∗ reached ER (cell c p.1 p.2.1 p.2.2) 0) : sProp 𝕄) := by
  have h : ∀ p : Fin 4 × Fin 8 × Bool, iprop(ctx D K ∗ (openTok ER (cell c p.1 p.2.1 p.2.2) ∗ semVal (cell c p.1 p.2.1 p.2.2) 0))
      ⊢ (|={Set.univ}=> iprop(atPos ER (cell c p.1 p.2.1 p.2.2) 0 ∅ 0 ∗ reached ER (cell c p.1 p.2.1 p.2.2) 0) : sProp 𝕄) := fun p => by
    iintro ⟨#H, Ho, Hs⟩
    iapply (Rounds.cell_open ER (Rd D) (g := cell c p.1 p.2.1 p.2.2) (Set.mem_univ (K (cell c p.1 p.2.1 p.2.2))))
    isplitr; · iapply (ctx_cell D K c p.1 p.2.1 p.2.2); iexact H
    isplitl [Ho]; · iexact Ho
    iexact Hs
  exact (bigSep_with_persistent fun p _ => h p).trans (bigSep_fupd _ _)

theorem opened_fam (f : Fin 4) :
    (bigSep Finset.univ fun j : Fin 8 => iprop((atPos ER (cell c f j false) 0 ∅ 0 ∗ reached ER (cell c f j false) 0)
        ∗ (atPos ER (cell c f j true) 0 ∅ 0 ∗ reached ER (cell c f j true) 0))) ⊢ (iprop(all (at0 c f) ∗ all (opn c f)) : sProp 𝕄) := by
  rw [← all_sep (at0 c f) (opn c f)]
  refine all_mono fun j => ?_
  iintro ⟨⟨A, R⟩, ⟨A', R'⟩⟩
  isplitl [A A']
  · isplitl [A]; · iexact A
    iexact A'
  isplitl [R]; · iexact R
  iexact R'

theorem hopen : iprop(Tk D c ∗ Pipeline.ownSems0 osem c ∗ levAts L lv) ⊢ (|={Set.univ}=> Xk D c : sProp 𝕄) := by
  have ho : (Pipeline.ownSems0 osem c : sProp 𝕄) = bigSep Finset.univ fun p : Fin 4 × Fin 8 × Bool => semVal (cell c p.1 p.2.1 p.2.2) 0 := rfl
  have hp : iprop((bigSep Finset.univ fun p : Fin 4 × Fin 8 × Bool => openTok ER (cell c p.1 p.2.1 p.2.2))
      ∗ bigSep Finset.univ fun p : Fin 4 × Fin 8 × Bool => semVal (cell c p.1 p.2.1 p.2.2) 0)
    ⊢ (bigSep Finset.univ fun p : Fin 4 × Fin 8 × Bool => iprop(openTok ER (cell c p.1 p.2.1 p.2.2) ∗ semVal (cell c p.1 p.2.1 p.2.2) 0) : sProp 𝕄) :=
    Entails.of_eq (bigSep_sep' _ _ _).symm
  rw [ho]
  unfold Tk Xk linear credits
  iintro ⟨⟨⟨%K, #Hrec, Htb, Hab, Hop, HtY, HtX⟩, Hcb, Hc2, Hc3⟩, Hs, #Hlev⟩
  ihave #Hctx := (show iprop(records D K ∗ levAts L lv) ⊢ ctx D K from by
      unfold records ctx
      iintro ⟨⟨#H1, #H2⟩, #H3⟩
      isplitr; · iexact H1
      isplitr; · iexact H2
      iexact H3) $$ []
  · isplitr; · iexact Hrec
    iexact Hlev
  ihave Hos := hp $$ [Hop Hs]
  · isplitl [Hop]; · iexact Hop
    iexact Hs
  imod (open_cells D c K) $$ [Hos] with Hall
  · isplitr; · iexact Hctx
    iexact Hos
  ihave Hall := (Entails.of_eq (fams_eq (F := F) fun p : Fin 4 × Fin 8 × Bool =>
    iprop(atPos ER (cell c p.1 p.2.1 p.2.2) 0 ∅ 0 ∗ reached ER (cell c p.1 p.2.1 p.2.2) 0))) $$ Hall
  icases Hall with ⟨H0, H1, H2, H3⟩
  ihave H0 := (opened_fam c 0) $$ H0
  ihave H1 := (opened_fam c 1) $$ H1
  ihave H2 := (opened_fam c 2) $$ H2
  ihave H3 := (opened_fam c 3) $$ H3
  icases H0 with ⟨A0, R0⟩
  icases H1 with ⟨A1, R1⟩
  icases H2 with ⟨A2, R2⟩
  icases H3 with ⟨A3, R3⟩
  imodintro
  iexists K
  isplitr; · iexact Hctx
  unfold rights
  isplitl [Htb]; · iexact Htb
  isplitl [Hcb Hab]
  · isplitl [Hcb]; · iexact Hcb
    iexact Hab
  isplitl [HtY HtX]
  · isplitl [HtY]; · iexact HtY
    iexact HtX
  isplitl [A0 A1 A2 A3]
  · isplitl [A0]; · iexact A0
    isplitl [A1]; · iexact A1
    isplitl [A2]; · iexact A2
    iexact A3
  isplitl [R0 R1 R2 R3]
  · isplitl [R0]; · iexact R0
    isplitl [R1]; · iexact R1
    isplitl [R2]; · iexact R2
    iexact R3
  isplitl [Hc2]; · iexact Hc2
  iexact Hc3

end Rights

/-! ## The proof data -/

variable (m : (ℓ : Loc nD τ sig) → Buf (Elt F) ℓ)

/-- The arrays the kernel is entered with, on every device. -/
def ins : Ins F := ⟨fun c => V m c main_v4, fun c => V m c main_v6, fun c => V m c main_v10⟩

/-- What is held before the body and after it. -/
def Φ₀ (c : Dev nD) : sProp 𝕄 := iprop(Xk (ins m) c ∗ scratch c ∗ ∃ r, prngReg c r)
def Φ₁ (c : Dev nD) : sProp 𝕄 := iprop(zeros c ∗ scratch c ∗ ∃ r, prngReg c r)

def dat0 (c : Dev nD) : Dat τ (Elt F) Unit ℕ UU ℕ cfg0 c where
  A w := V m c (Pipeline.arrRef spec0 w)
  after w _ := match w with
    | 0 => (ins m).q c
    | 1 => (ins m).k c
    | 2 => (ins m).v c
    | 3 => OUT (ins m) c
    | ⟨_ + 4, h⟩ => absurd h (Nat.not_lt.2 (Nat.le_add_left _ _))
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat0 m

/-- What the fetch of a whole window reads is the array itself: shown at an index, for each of the three inputs. -/
theorem place {n : Nat} (k i : Nat) (hk : k = 0) (h : i < n) : k * n + 1 * i = i := by subst hk; omega

theorem before_q (c : Dev nD) (t : Fin cfg0.N) (d) : (dat0 m c).before 0 t d = (ins m).q c := by
  unfold Dat.before; rw [if_pos (fetch0_0 t)]
  funext i
  exact congrArg ((ins m).q c) (funext fun a => Fin.ext (place _ _ rfl (i a).isLt))

theorem before_k (c : Dev nD) (t : Fin cfg0.N) (d) : (dat0 m c).before 1 t d = (ins m).k c := by
  unfold Dat.before; rw [if_pos (fetch0_1 t)]
  funext i
  exact congrArg ((ins m).k c) (funext fun a => Fin.ext (place _ _ rfl (i a).isLt))

theorem before_v (c : Dev nD) (t : Fin cfg0.N) (d) : (dat0 m c).before 2 t d = (ins m).v c := by
  unfold Dat.before; rw [if_pos (fetch0_2 t)]
  funext i
  exact congrArg ((ins m).v c) (funext fun a => Fin.ext (place _ _ rfl (i a).isLt))

/-! ## The body's obligation -/

/-- The staging buffers as the body finds them, and as it leaves them. -/
def stages (c : Dev nD) : sProp 𝕄 :=
  iprop((∃ d, owns (c : Thread nD τ) qM fullShare ((dat0 m c).before (0 : Fin 4) t0_0 d)) ∗ (∃ d, owns (c : Thread nD τ) kM fullShare ((dat0 m c).before (1 : Fin 4) t0_0 d))
    ∗ (∃ d, owns (c : Thread nD τ) vM fullShare ((dat0 m c).before (2 : Fin 4) t0_0 d)) ∗ (∃ d, owns (c : Thread nD τ) oM fullShare ((dat0 m c).before (3 : Fin 4) t0_0 d)))
def staged (c : Dev nD) : sProp 𝕄 :=
  iprop(owns (c : Thread nD τ) qM fullShare ((ins m).q c) ∗ owns (c : Thread nD τ) kM fullShare ((ins m).k c)
    ∗ owns (c : Thread nD τ) vM fullShare ((ins m).v c) ∗ owns (c : Thread nD τ) oM fullShare (OUT (ins m) c))

theorem stages_elim (c : Dev nD) : stages m c ⊢ (iprop(inputs (ins m) c ∗ (∃ f, lO c ↦[Finset.univ]{fullShare} f)) : sProp 𝕄) := by
  unfold stages inputs
  simp only [owns_whole_eq]
  iintro ⟨⟨%d0, %g0, %h0, H0⟩, ⟨%d1, %g1, %h1, H1⟩, ⟨%d2, %g2, %h2, H2⟩, ⟨%d3, %g3, %h3, H3⟩⟩
  obtain rfl := h0.trans (before_q m c t0_0 d0)
  obtain rfl := h1.trans (before_k m c t0_0 d1)
  obtain rfl := h2.trans (before_v m c t0_0 d2)
  isplitr [H3]
  · isplitl [H0]; · iexact H0
    isplitl [H1]; · iexact H1
    iexact H2
  iexists g3; iexact H3

theorem staged_intro (c : Dev nD) : iprop(inputs (ins m) c ∗ (lO c ↦[Finset.univ]{fullShare} OUT (ins m) c)) ⊢ (staged m c : sProp 𝕄) := by
  unfold staged inputs
  simp only [owns_whole_eq]
  iintro ⟨⟨H0, H1, H2⟩, H3⟩
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-- The state the body is called in, and the state it leaves. -/
def bodyPre (c : Dev nD) : sProp 𝕄 := iprop(Φ₀ m c ∗ (dat0 m c).owesAt () t0_0.castSucc ∗ stages m c)
def bodyPost (c : Dev nD) : sProp 𝕄 := iprop(Φ₁ c ∗ (dat0 m c).owesAt () t0_0.succ ∗ staged m c)

theorem sound_body (c : Dev nD) (Q : PUnit → sProp 𝕄) (hQ : bodyPost m c ⊢ Q ⟨⟩) (p : BProg F) (hp : p = body (F := F) qM kM (Memref.isWhole_whole _) vM (Memref.isWhole_whole _) oM krM (Memref.isWhole_whole _) vrM
      (Memref.isWhole_whole _) aM cc0_scratch3 cc0_scratch4 cc0_scratch5 cc0_scratch6) : bodyPre m c ⊢ WP c Q p := by
  subst hp
  unfold bodyPost Φ₁ at hQ
  unfold bodyPre Φ₀ Xk
  iintro ⟨⟨⟨%K, Hctx, Hri⟩, Hscr, Hreg⟩, HO, Hst⟩
  ihave HO := (owesAt_elim (dat0 m c) () t0_0.castSucc (O₀ c) rfl) $$ HO
  ihave Hst := (stages_elim m c) $$ Hst
  icases Hst with ⟨Hin, Hout⟩
  iapply (bodyRun (ins m) K c Q _ _ _ _)
  isplitr [Hreg]
  · isplitl [Hctx HO]
    · isplitl [Hctx]; · iexact Hctx
      iexact HO
    isplitl [Hri]; · iexact Hri
    isplitl [Hin]; · iexact Hin
    isplitl [Hout]; · iexact Hout
    iexact Hscr
  iintro ⟨⟨%W, HO⟩, Hz, Hin, Hout, Hscr⟩
  iapply hQ
  isplitl [Hz Hscr Hreg]
  · isplitl [Hz]; · iexact Hz
    isplitl [Hscr]; · iexact Hscr
    iexact Hreg
  isplitl [HO]
  · iapply (owesAt_intro (dat0 m c) () t0_0.succ 0 rfl rfl W); iexact HO
  iapply (staged_intro m c)
  isplitl [Hin]; · iexact Hin
  iexact Hout

theorem row (t : Fin cfg0.N) : (defs₀ (F := F)) .tc cfg0.body (cfg0.bodyArgs t (cfg0.slots t)) = bodyAt0 t := rfl

theorem row_body : bodyAt0 (F := F) t0_0 = body qM kM (Memref.isWhole_whole _) vM (Memref.isWhole_whole _) oM krM (Memref.isWhole_whole _) vrM
      (Memref.isWhole_whole _) aM cc0_scratch3 cc0_scratch4 cc0_scratch5 cc0_scratch6 := cc0_body_eq_body _ _ _ _ _ _ _ _ _ _ _ _ _ _ _ _ _ _

theorem after_q (c : Dev nD) : (dat0 m c).after 0 t0_0 = (ins m).q c := rfl
theorem after_k (c : Dev nD) : (dat0 m c).after 1 t0_0 = (ins m).k c := rfl
theorem after_v (c : Dev nD) : (dat0 m c).after 2 t0_0 = (ins m).v c := rfl
theorem after_o (c : Dev nD) : (dat0 m c).after 3 t0_0 = OUT (ins m) c := rfl

theorem body_obligation (c : Dev nD) : BodyObligation (dat0 m c) defs₀ 𝒱₀ () Set.univ := fun t => by
  obtain rfl := fin_N0 t
  rw [bigSep_W0, bigSep_W0]
  refine BIBase.Entails.trans (Q := bodyPre m c) (Entails.of_eq rfl) ?_
  let QQ : PUnit → sProp 𝕄 := fun _ => iprop((dat0 m c).Φ t0_0.succ ∗ (dat0 m c).owesAt () t0_0.succ ∗
     owns (c : Thread nD τ) ((cfg0.win 0).stage (cfg0.slots t0_0 0)) fullShare ((dat0 m c).after 0 t0_0) ∗
     owns (c : Thread nD τ) ((cfg0.win 1).stage (cfg0.slots t0_0 1)) fullShare ((dat0 m c).after 1 t0_0) ∗
     owns (c : Thread nD τ) ((cfg0.win 2).stage (cfg0.slots t0_0 2)) fullShare ((dat0 m c).after 2 t0_0) ∗
     owns (c : Thread nD τ) ((cfg0.win 3).stage (cfg0.slots t0_0 3)) fullShare ((dat0 m c).after 3 t0_0))
  have e : bodyPost m c ⊢ QQ ⟨⟩ := Entails.of_eq rfl
  dsimp only
  have hs := sound_body m c QQ e _ ((row (F := F) t0_0).trans row_body)
  unfold WP at hs
  refine Eq.mp ?_ hs
  refine congrArg (fun X => (bodyPre m c ⊢ X)) ?_
  with_reducible refine congrFun ?_ _
  rfl

/-! ## The region as a segment -/

/-- The buffers of a device that are not the kernel's arrays. -/
abbrev others : Finset (DevRef τ sig) := Pipeline.ucRefs τ sig \ Pipeline.arrRefs (τ := τ) spec0

/-- What the buffers hold on entry and on exit. -/
abbrev W₁ (c : Dev nD) : Valuation τ sig (Elt F) := V0 m c
abbrev W₂ (c : Dev nD) : Valuation τ sig (Elt F) := Pipeline.afterRegion (dat0 m c) (V0 m c)

theorem ownSemFacts : Pipeline.OwnSemFacts spec0 osem := by decide

theorem scoped_scratch (c : Dev nD) : (Pipeline.scopedRest (Ix := Unit) (Val := Elt F) (Name := ℕ) (U := UU) (Lvl := ℕ) spec0 c : sProp 𝕄) = scratch c := scopedRest0_eq c

theorem hin (c : Dev nD) : iprop(Pipeline.scopedRest spec0 c ∗ (∃ r, prngReg c r) ∗ StableHlo.held (c.tc : Thread nD τ) (∅ : Finset (DevRef τ sig)) (W₁ m c) ∗ Xk (ins m) c)
    ⊢ (Φ₀ m c : sProp 𝕄) := by
  rw [scoped_scratch]
  unfold Φ₀
  iintro ⟨Hs, Hp, -, HX⟩
  isplitl [HX]; · iexact HX
  isplitl [Hs]; · iexact Hs
  iexact Hp

theorem hout (c : Dev nD) : (Φ₁ c : sProp 𝕄)
    ⊢ iprop(Pipeline.scopedRest spec0 c ∗ (∃ r, prngReg c r) ∗ StableHlo.held (c.tc : Thread nD τ) (∅ : Finset (DevRef τ sig)) (W₂ m c) ∗ Pipeline.ownSems0 osem c ∗ Yk c) := by
  rw [scoped_scratch, show StableHlo.held (c.tc : Thread nD τ) (∅ : Finset (DevRef τ sig)) (W₂ m c) = (BI.emp : sProp 𝕄) from BI.bigSep_empty]
  rw [show (Pipeline.ownSems0 osem c : sProp 𝕄) = bigSep Finset.univ fun p : Fin 4 × Fin 8 × Bool => semVal (cell c p.1 p.2.1 p.2.2) 0 from rfl]
  unfold Φ₁ zeros Yk
  iintro ⟨⟨Hb, Hz⟩, Hs, Hp⟩
  isplitl [Hs]; · iexact Hs
  isplitl [Hp]; · iexact Hp
  isplitr; · iempintro
  isplitl [Hz]; · iexact Hz
  iexact Hb

theorem staging_lv (c : Dev nD) (w : Fin 4) (s : Fin (win0 w).nbuf) : lv ((c : Thread nD τ), .dma ((win0 w).sem s)) () ≤ 0 := by
  revert s w; decide +revert

theorem cut (c : Dev nD) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · obtain ⟨h1, h2⟩ := O₀_lev c g i h
    obtain ⟨⟨d, k⟩, s⟩ := g
    obtain rfl : k = .tc := h1
    exact ⟨by rw [show L ((d, .tc), s) = {()} from L_tc d s]; exact Finset.mem_singleton_self _, h2⟩
  · exact absurd h (Nat.lt_irrefl 0)

theorem last_val (c : Dev nD) (t : Fin (cfg0.N + 1)) (ht : t = Fin.last _) : (dat0 m c).owed t = 0 := by subst ht; rfl

end Cert.KernelIdeal.Attn

end
-- ==== Proof.Deal.lean ====
/- What the launch deals: the tokens of all duties handed to who pays them, and the credits of what each device is owed. -/
module

public import proofs.«01_k».proof.Proof.Region

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Tokens -/

def barTok : Dev nD × Bool ↪ GSem nD τ sig × ℕ × Bool :=
  ⟨fun p => (bar p.1, 0, p.2), fun _ _ h => Prod.ext (congrArg (fun t : GSem nD τ sig × ℕ × Bool => t.1.1.1) h) (congrArg (fun t : GSem nD τ sig × ℕ × Bool => t.2.2) h)⟩
def cellTok : Dev nD × Fin 4 × Fin 8 × Bool ↪ GSem nD τ sig × ℕ × Bool :=
  ⟨fun p => (cell p.1 p.2.1 p.2.2.1 p.2.2.2, 0, false), fun _ _ h => cell_inj (congrArg (fun t : GSem nD τ sig × ℕ × Bool => t.1) h)⟩

/-- Every duty of the schedule: two at each barrier, one at each transfer counter. -/
def toks : Finset (GSem nD τ sig × ℕ × Bool) := Finset.univ.map barTok ∪ Finset.univ.map cellTok

theorem bar_ne_cell (c d : Dev nD) (f : Fin 4) (j : Fin 8) (b : Bool) : cell c f j b ≠ bar d := fun h => nomatch congrArg Prod.snd h

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact bar_ne_cell _ _ _ _ _ h

theorem disjoint_toks : Disjoint (Finset.univ.map barTok) (Finset.univ.map cellTok) := by
  rw [Finset.disjoint_left]
  rintro g h₁ h₂
  obtain ⟨c, -, rfl⟩ := Finset.mem_map.mp h₁
  obtain ⟨p, -, h⟩ := Finset.mem_map.mp h₂
  exact bar_ne_cell _ _ _ _ _ (congrArg Prod.fst h)

def yEquiv : Dev nD ≃ Dev nD := ⟨yp, yp, yp_yp, yp_yp⟩
def xEquiv : Dev nD ≃ Dev nD := ⟨xp, xp, xp_xp, xp_xp⟩

/-- The two tokens of one chunk, and those of a device's one family. -/
abbrev pr (c : Dev nD) (f : Fin 4) (j : Fin 8) : sProp 𝕄 := iprop(dutyTok ER (cell c f j false) 0 false ∗ dutyTok ER (cell c f j true) 0 false)
def fam (f : Fin 4) (c : Dev nD) : sProp 𝕄 := all (pr c f)
def barT (b : Bool) (c : Dev nD) : sProp 𝕄 := dutyTok ER (bar c) 0 b

theorem toks_eq : (bigSep toks (fun x => dutyTok ER x.1 x.2.1 x.2.2) : sProp 𝕄)
    = iprop((bigSep Finset.univ fun c : Dev nD => iprop(barT false c ∗ barT true c))
      ∗ bigSep Finset.univ fun c : Dev nD => iprop(fam 0 c ∗ fam 1 c ∗ fam 2 c ∗ fam 3 c)) := by
  unfold toks
  rw [BI.bigSep_union disjoint_toks, BI.bigSep_map, BI.bigSep_map, bigSep_univ_prod, bigSep_univ_prod]
  refine congrArg₂ _ (bigSep_congr fun c _ => ?_) (bigSep_congr fun c _ => ?_)
  · rw [show (Finset.univ : Finset Bool) = {false, true} from by decide, bigSep_insert (by decide), bigSep_singleton]; rfl
  · rw [fams_eq]; rfl

theorem tokY_intro (c : Dev nD) : iprop(fam 0 c ∗ fam 2 (yp c)) ⊢ (all (tokY c) : sProp 𝕄) := by
  unfold fam
  rw [← all_sep (pr c 0) (pr (yp c) 2)]
  refine all_mono fun j => ?_
  unfold tokY
  iintro ⟨⟨A, A'⟩, ⟨B, B'⟩⟩
  isplitl [A B]
  · isplitl [A]; · iexact A
    iexact B
  isplitl [A']; · iexact A'
  iexact B'

theorem tokX_intro (c : Dev nD) : iprop(fam 1 c ∗ fam 3 (xp c)) ⊢ (all (tokX c) : sProp 𝕄) := by
  unfold fam
  rw [← all_sep (pr c 1) (pr (xp c) 3)]
  refine all_mono fun j => ?_
  unfold tokX
  iintro ⟨⟨A, A'⟩, ⟨B, B'⟩⟩
  isplitl [A B]
  · isplitl [A]; · iexact A
    iexact B
  isplitl [A']; · iexact A'
  iexact B'

/-- The tokens each device starts with. -/
def mine (c : Dev nD) : sProp 𝕄 := iprop((barT false (yp c) ∗ barT true (xp c)) ∗ (all (tokY c) ∗ all (tokX c)))

theorem mine_intro (c : Dev nD) :
    iprop((barT false (yp c) ∗ barT true (xp c)) ∗ (fam 0 c ∗ fam 1 c ∗ fam 2 (yp c) ∗ fam 3 (xp c))) ⊢ (mine c : sProp 𝕄) := by
  unfold mine
  iintro ⟨HB, H0, H1, H2, H3⟩
  isplitl [HB]; · iexact HB
  isplitl [H0 H2]
  · iapply (tokY_intro c)
    isplitl [H0]; · iexact H0
    iexact H2
  iapply (tokX_intro c)
  isplitl [H1]; · iexact H1
  iexact H3

/-- The tokens handed to who pays: those of the y counters and of the barrier's first duty over y, the others over x. -/
theorem deal_toks : (bigSep toks (fun x => dutyTok ER x.1 x.2.1 x.2.2) : sProp 𝕄) ⊢ bigSep Finset.univ fun c : Dev nD => mine c := by
  rw [toks_eq]
  refine BIBase.Entails.trans ?_ (bigSep_mono fun c _ => mine_intro c)
  rw [bigSep_sep', bigSep_sep', bigSep_sep', bigSep_sep', bigSep_sep', bigSep_sep', bigSep_sep', bigSep_sep', bigSep_sep',
    bigSep_univ_equiv yEquiv (fun c : Dev nD => (barT false c : sProp 𝕄)), bigSep_univ_equiv xEquiv (fun c : Dev nD => (barT true c : sProp 𝕄)),
    bigSep_univ_equiv yEquiv (fun c : Dev nD => (fam 2 c : sProp 𝕄)), bigSep_univ_equiv xEquiv (fun c : Dev nD => (fam 3 c : sProp 𝕄))]
  exact BI.Entails.refl _

/-! ## Credits -/

theorem rem_cell (p c : Dev nD) (f f' : Fin 4) (j : Fin 8) (b : Bool) :
    rem p f 0 (cell c f' j b) () = if p = c ∧ f = f' then Nb b else 0 := by
  have h : ∀ i : Fin 8, (tallyAt (cell p f i true) () (Nb true) + tallyAt (cell p f i false) () (Nb false) : CellTallies nD τ sig Unit) (cell c f' j b) ()
      = if i = j then (if p = c ∧ f = f' then Nb b else 0) else 0 := fun i => by
    have e : ∀ b' : Bool, cell c f' j b = cell p f i b' ↔ (c = p ∧ f' = f ∧ j = i ∧ b = b') := fun b' =>
      ⟨fun h => by
        have := cell_inj (a₁ := (c, f', j, b)) (a₂ := (p, f, i, b')) h
        simpa [Prod.ext_iff] using this, by rintro ⟨rfl, rfl, rfl, rfl⟩; rfl⟩
    have t : ∀ (b' : Bool) (n : ℕ), (tallyAt (cell p f i b') () n : CellTallies nD τ sig Unit) (cell c f' j b) ()
        = if c = p ∧ f' = f ∧ j = i ∧ b = b' then n else 0 := fun b' n => by
      rw [tallyAt_apply]; exact if_congr ((and_iff_left rfl).trans (e b')) rfl rfl
    rw [Pi.add_apply, Finsupp.add_apply, t, t]
    by_cases h1 : i = j
    · subst h1
      rw [if_pos rfl]
      by_cases h2 : p = c ∧ f = f'
      · obtain ⟨rfl, rfl⟩ := h2
        cases b <;> simp
      · rw [if_neg h2, if_neg (fun h => h2 ⟨h.1.symm, h.2.1.symm⟩), if_neg (fun h => h2 ⟨h.1.symm, h.2.1.symm⟩)]
    · rw [if_neg h1, if_neg (fun h => h1 h.2.2.1.symm), if_neg (fun h => h1 h.2.2.1.symm)]
  unfold rem
  rw [Finset.sum_apply, Finsupp.finset_sum_apply, Finset.sum_congr rfl fun i _ => h i, Finset.sum_ite_eq', if_pos (by simp)]

theorem rem_bar (p c : Dev nD) (f : Fin 4) (i : ℕ) : rem p f i (bar c) () = 0 := by
  by_contra h
  obtain ⟨j, b, h⟩ := rem_pos (Nat.pos_of_ne_zero h)
  exact bar_ne_cell _ _ _ _ _ h.symm

theorem bar_eq (c d : Dev nD) : bar c = bar d ↔ d = c := ⟨fun h => (congrArg (fun g : GSem nD τ sig => g.1.1) h).symm, fun h => by rw [h]⟩

theorem owed_bar (d c : Dev nD) : O₀ d (bar c) () = (if xp d = c then 1 else 0) + (if yp d = c then 1 else 0) := by
  unfold O₀
  simp only [Pi.add_apply, Finsupp.add_apply, rem_bar, tallyAt_apply, bar_eq, and_true, Nat.zero_add]

theorem owed_cell (d c : Dev nD) (f : Fin 4) (j : Fin 8) (b : Bool) :
    O₀ d (cell c f j b) () = (if xp d = c ∧ 3 = f then Nb b else 0) + (if yp d = c ∧ 2 = f then Nb b else 0) := by
  unfold O₀
  simp only [Pi.add_apply, Finsupp.add_apply, rem_cell]
  rw [tallyAt_ne_cell (bar_ne_cell _ _ _ _ _), tallyAt_ne_cell (bar_ne_cell _ _ _ _ _)]
  rfl

theorem sum_partner (e : Dev nD ≃ Dev nD) (c : Dev nD) (n : ℕ) : (∑ d : Dev nD, if e d = c then n else 0) = n := by
  rw [Finset.sum_congr rfl fun d _ => by rw [show (if e d = c then n else 0) = if d = e.symm c then n else 0 from by simp only [Equiv.eq_symm_apply]],
    Finset.sum_ite_eq' Finset.univ (e.symm c) fun _ => n, if_pos (Finset.mem_univ _)]

theorem launch_bar (c : Dev nD) :
    tallyOn (bar c) (launchCredit (Pipeline.owing O₀) 0 (bar c)) = (tallyAt (bar c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib]
  exact congrArg₂ _ (sum_partner xEquiv c 1) (sum_partner yEquiv c 1)

theorem launch_cell (c : Dev nD) (f : Fin 4) (j : Fin 8) (b : Bool) (hf : f = 2 ∨ f = 3) :
    tallyOn (cell c f j b) (launchCredit (Pipeline.owing O₀) 0 (cell c f j b)) = (tallyAt (cell c f j b) () (Nb b) : CellTallies nD τ sig Unit) := by
  unfold tallyAt; refine congrArg _ (Finsupp.ext fun u => ?_); cases u
  rw [Pipeline.launchCredit_owing, Finsupp.single_eq_same, Finset.sum_congr rfl fun d _ => owed_cell d c f j b, Finset.sum_add_distrib]
  rcases hf with rfl | rfl
  · simp only [show ¬ (3 : Fin 4) = 2 from by decide, and_false, if_false, Finset.sum_const_zero, and_true, Nat.zero_add]
    exact sum_partner yEquiv c (Nb b)
  · simp only [show ¬ (2 : Fin 4) = 3 from by decide, and_false, if_false, Finset.sum_const_zero, and_true, Nat.add_zero]
    exact sum_partner xEquiv c (Nb b)

theorem osem_inj : Function.Injective osem := fun p q h => fs_inj (SemLoc.dma.inj h)

theorem last_two (A B X Y : sProp 𝕄) : iprop(A ∗ B ∗ X ∗ Y) ⊢ iprop(X ∗ Y) := by
  iintro ⟨-, -, H2, H3⟩
  isplitl [H2]; · iexact H2
  iexact H3

theorem credits_intro (c : Dev nD) : (Pipeline.launchCred O₀ c : sProp 𝕄) ⊢ credits c := by
  have hsub : Finset.univ.map ⟨osem, osem_inj⟩ ⊆ Finset.univ.erase (SemLoc.reg barrier0 : SemLoc sig) := fun s hs => by
    obtain ⟨p, -, rfl⟩ := Finset.mem_map.mp hs
    exact Finset.mem_erase.mpr ⟨fun h => (nomatch h), Finset.mem_univ _⟩
  have hcells := (BI.bigSep_subset (Φ := fun sm : SemLoc sig =>
    (cred (tallyOn ((c.tc : Thread nD τ), sm) (launchCredit (Pipeline.owing O₀) 0 ((c.tc : Thread nD τ), sm))) : sProp 𝕄)) hsub)
  rw [BI.bigSep_map, fams_eq] at hcells
  have hf : ∀ f : Fin 4, f = 2 ∨ f = 3 → (bigSep Finset.univ fun j : Fin 8 =>
      iprop(cred (tallyOn (cell c f j false) (launchCredit (Pipeline.owing O₀) 0 (cell c f j false)))
        ∗ cred (tallyOn (cell c f j true) (launchCredit (Pipeline.owing O₀) 0 (cell c f j true))))) = (all (sCred c f) : sProp 𝕄) := fun f hf =>
    bigSep_congr fun j _ => by rw [launch_cell c f j false hf, launch_cell c f j true hf]
  unfold Pipeline.launchCred credits
  rw [bigSep_univ_at _ (SemLoc.reg barrier0), launch_bar, ← hf 2 (.inl rfl), ← hf 3 (.inr rfl)]
  exact sep_mono_right (hcells.trans (last_two _ _ _ _))

end Cert.KernelIdeal.Attn

end
-- ==== Proof.Launch.lean ====
/- The launch: the kernel region as a segment between the host lines, what each device starts with, and the run of the whole program. -/
module

public import proofs.«01_k».proof.Proof.Deal
public import Idealize.ShloMosaic.Lib.Pipeline.Quiescent

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

theorem whole_share (c : Dev nD) (w : Fin 4) : (dat0 m c).share w = fullShare := by
  unfold Pipeline.Dat.share; split <;> rfl

set_option backward.isDefEq.respectTransparency.types false in
/-- The region, entered and left with every buffer held. -/
def reg : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    ∅ others (Finset.empty_subset _) launch0.toP rfl (fun c => (body_obligation m c).loose)
    (fun _ => 0) O₀ (fun _ => (zero_add _).symm) (fun _ => rfl) (fun _ => rfl) (fun c w => whole_share m c w)
    (W₁ m) (W₂ m)
    (fun c b hb => by
      obtain ⟨hb, -⟩ := Finset.mem_sdiff.mp hb
      obtain ⟨hu, hn⟩ := Finset.mem_sdiff.mp hb
      unfold W₂ Pipeline.afterRegion
      rw [dif_neg]
      rintro ⟨w, rfl⟩
      exact hn (Finset.mem_map_of_mem _ (Finset.mem_image_of_mem _ (Finset.mem_univ w))))
    (Tk (ins m)) Yk (Xk (ins m)) Yk (hopen (ins m)) (hin m) (hout m)
    (fun c => by iintro H; imodintro; iexact H)
    (fun _ => 0)
    ⟨fun c _ _ => by rw [L_tc]; exact Finset.mem_singleton_self _, fun c w s => staging_lv c w s, fun c t g i h => cut m c t g i h⟩
    (fun _ => iprop(emp))
    (fun _ _ => rfl)
    (fun c w => (Pipeline.afterRegion_arr (dat0 m c) (V0 m c) launch0.win.arr_inj w).symm)

/-- What rides beside the buffers before the region and after it. -/
def Rin (c : Dev nD) : sProp 𝕄 := iprop(Tk (ins m) c ∗ (∃ r, prngReg c r) ∗ ∃ W, owes (c : Thread nD τ) (O₀ c) W)
def Rout (c : Dev nD) : sProp 𝕄 := iprop(semVal (bar c) 0 ∗ ∃ W, owes (c : Thread nD τ) (0 : CellTallies nD τ sig Unit) W)

theorem arrs_sub : (Pipeline.arrRefs (τ := τ) spec0 : Finset (DevRef τ sig)) ⊆ Pipeline.ucRefs τ sig := Pipeline.arrRefs_sub_ucRefs spec0 launch0.win.arr_unscoped

theorem reg_pre (c : Dev nD) : iprop(StableHlo.held (c : Thread nD τ) (Pipeline.ucRefs τ sig) (W₁ m c) ∗ Rin m c) ⊢ (reg m).pre c := by
  show _ ⊢ iprop(StableHlo.held (c.tc : Thread nD τ) (Pipeline.arrRefs (τ := τ) spec0) (W₁ m c) ∗ (∃ r, prngReg c r)
    ∗ (StableHlo.held (c.tc : Thread nD τ) others (W₁ m c) ∗ emp) ∗ Tk (ins m) c ∗ ∃ Wd, owes (c : Thread nD τ) (0 + O₀ c) Wd)
  rw [StableHlo.held_sub_split (c.tc : Thread nD τ) arrs_sub (W₁ m c), zero_add]
  unfold Rin
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (W₂ m c) ∗ Rout (F := F) c) := by
  show iprop(StableHlo.held (c.tc : Thread nD τ) (Pipeline.arrRefs (τ := τ) spec0) (W₂ m c) ∗ (∃ r, prngReg c r)
    ∗ (StableHlo.held (c.tc : Thread nD τ) others (W₂ m c) ∗ emp) ∗ Yk c ∗ ∃ Wd, owes (c : Thread nD τ) (0 : CellTallies nD τ sig Unit) Wd) ⊢ _
  rw [StableHlo.held_sub_split (c.tc : Thread nD τ) arrs_sub (W₂ m c)]
  unfold Rout Yk
  iintro ⟨Ha, -, ⟨Hr, -⟩, Hb, HO⟩
  isplitl [Ha Hr]
  · isplitl [Ha]; · iexact Ha
    iexact Hr
  isplitl [Hb]; · iexact Hb
  iexact HO

def pre : Pipeline.HostSeg (Name := ℕ) (U := UU) (pcfgs (F := F)) defs₀ 𝒱₀ L lv :=
  Pipeline.HostSeg.ofOps _ defs₀ 𝒱₀ L lv (Pipeline.ucRefs τ sig) hostOps0
    (fun op h => Pipeline.sub_ucRefs op ((List.forall_iff_forall_mem.mp hostOps0_sub) op h)) (List.forall_iff_forall_mem.mp hostOps0_fresh)
    (fun c b => m (c, b)) (Rin m)

def post : Pipeline.HostSeg (Name := ℕ) (U := UU) (pcfgs (F := F)) defs₀ 𝒱₀ L lv :=
  Pipeline.HostSeg.ofOps _ defs₀ 𝒱₀ L lv (Pipeline.ucRefs τ sig) hostOps1
    (fun op h => Pipeline.sub_ucRefs op ((List.forall_iff_forall_mem.mp hostOps1_sub) op h)) (List.forall_iff_forall_mem.mp hostOps1_fresh)
    (W₂ m) Rout

/-- What the buffers hold in the end. -/
abbrev W₃ (c : Dev nD) : Valuation τ sig (Elt F) := StableHlo.after hostOps1 (W₂ m c)

/-! ## The launch -/

theorem semZero (c : Dev nD) : (unscopedSems0 c : sProp 𝕄) = semVal (bar c) 0 := by
  unfold unscopedSems0
  rw [show (Finset.univ.filter fun sm : SemLoc sig => ¬ sm.isScoped .tc) = {SemLoc.reg barrier0} from by decide, BI.bigSep_singleton]

/-- The pipeline's launch element beside the schedule's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The schedule's launch element lies with the first device until it is dealt out. -/
def kept (c : Dev nD) : sProp 𝕄 := if c = 0 then BI.own (ER (launchOf barCells scCells toks)) else iprop(emp)

theorem kept_all : bigSep Finset.univ kept = (BI.own (ER (launchOf barCells scCells toks)) : sProp 𝕄) := by
  rw [bigSep_univ_at kept (0 : Dev nD), bigSep_congr (s := Finset.univ.erase (0 : Dev nD)) (Φ := kept) (Ψ := fun _ => (BI.emp : sProp 𝕄))
    fun c hc => if_neg (Finset.ne_of_mem_erase hc), BI.bigSep_emp_const]
  exact BI.equiv_iff.mp sep_emp

/-- What a device starts with beside the schedule. -/
def begin (c : Dev nD) : sProp 𝕄 :=
  iprop(StableHlo.held (c : Thread nD τ) (Pipeline.ucRefs τ sig) (fun b => m (c, b)) ∗ credits c ∗ (∃ r, prngReg c r) ∗ ∃ W, owes (c : Thread nD τ) (O₀ c) W)

/-- Its own share of the schedule: its barrier position, its rights to open, its tokens. -/
def share (c : Dev nD) : sProp 𝕄 :=
  iprop(atPos ER (bar c) 0 ∅ 0 ∗ (bigSep Finset.univ fun p : Fin 4 × Fin 8 × Bool => openTok ER (cell c p.1 p.2.1 p.2.2)) ∗ mine c)

theorem start_intro (K : GSem nD τ sig → ℕ) (c : Dev nD) : iprop(records (ins m) K ∗ (share c ∗ begin m c))
    ⊢ iprop(StableHlo.held (c : Thread nD τ) (Pipeline.ucRefs τ sig) (fun b => m (c, b)) ∗ Rin m c) := by
  unfold share begin Rin Tk linear mine barT
  iintro ⟨#HR, ⟨Ha, Ho, Hb, Ht⟩, Hh, Hc, Hp, HO⟩
  isplitl [Hh]; · iexact Hh
  isplitr [Hp HO]
  · isplitr [Hc]
    · iexists K
      isplitr; · iexact HR
      isplitl [Hb]; · iexact Hb
      isplitl [Ha]; · iexact Ha
      isplitl [Ho]; · iexact Ho
      iexact Ht
    iexact Hc
  isplitl [Hp]; · iexact Hp
  iexact HO

theorem opens : bigSep scCells (fun g => (openTok ER g : sProp 𝕄))
    = bigSep Finset.univ fun c : Dev nD => bigSep Finset.univ fun p : Fin 4 × Fin 8 × Bool => openTok ER (cell c p.1 p.2.1 p.2.2) := by
  rw [BI.bigSep_map, bigSep_univ_prod]; rfl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept c)) ∗ levAts L lv)
      ⊢ (|={Set.univ}=> bigSep Finset.univ fun c : Dev nD => iprop(StableHlo.held (c : Thread nD τ) (Pipeline.ucRefs τ sig) (fun b => m (c, b)) ∗ Rin m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ kept c)
      ⊢ (iprop(begin m c ∗ (semVal (bar c) 0 ∗ kept c)) : sProp 𝕄) := by
    rw [show unscopedBufs c (fun b => m ((c : Thread nD τ).loc b)) = StableHlo.held (c : Thread nD τ) (Pipeline.ucRefs τ sig) (fun b => m (c, b))
      from Pipeline.unscopedBufs_held c (fun b => m (c, b)), semZero]
    unfold begin
    iintro ⟨Hh, Hs, HO, Hc, Hp, HG⟩
    isplitr [Hs HG]
    · isplitl [Hh]; · iexact Hh
      isplitl [Hc]; · iapply (credits_intro c); iexact Hc
      isplitl [Hp]; · iexists (ρ c); iexact Hp
      iexists ∅; iexact HO
    isplitl [Hs]; · iexact Hs
    iexact HG
  have hsplit : (bigSep Finset.univ fun c : Dev nD => iprop(begin m c ∗ (semVal (bar c) 0 ∗ kept c)))
      ⊢ (iprop((bigSep Finset.univ fun c : Dev nD => begin m c) ∗ (bigSep barCells fun g => semVal g 0) ∗ BI.own (ER (launchOf barCells scCells toks))) : sProp 𝕄) :=
    Entails.of_eq (by rw [bigSep_sep', bigSep_sep', kept_all, BI.bigSep_map]; rfl)
  have hjoin : iprop((bigSep barCells fun g => atPos ER g 0 ∅ 0) ∗ (bigSep scCells fun g => openTok ER g)
        ∗ (bigSep toks fun x => dutyTok ER x.1 x.2.1 x.2.2) ∗ bigSep Finset.univ fun c : Dev nD => begin m c)
      ⊢ (bigSep Finset.univ fun c : Dev nD => iprop(share c ∗ begin m c) : sProp 𝕄) := by
    have e : (bigSep Finset.univ fun c : Dev nD => iprop(share c ∗ begin m c) : sProp 𝕄)
        = iprop(((bigSep barCells fun g => atPos ER g 0 ∅ 0) ∗ (bigSep scCells fun g => openTok ER g) ∗ bigSep Finset.univ fun c : Dev nD => mine c)
          ∗ bigSep Finset.univ fun c : Dev nD => begin m c) := by
      unfold share
      rw [bigSep_sep', bigSep_sep', bigSep_sep', opens, BI.bigSep_map]; rfl
    rw [e]
    iintro ⟨Ha, Ho, Ht, Hb⟩
    isplitr [Hb]
    · isplitl [Ha]; · iexact Ha
      isplitl [Ho]; · iexact Ho
      iapply deal_toks; iexact Ht
    iexact Hb
  iintro ⟨H, -⟩
  ihave H := ((show _ ⊢ _ from bigSep_mono fun c _ => hcore c).trans hsplit) $$ H
  icases H with ⟨HB, Hv, Hu⟩
  imod (Rounds.fund_launch ER (Rd (ins m)) disjoint_cells (fun g _ h => h) toks) $$ [Hv Hu] with ⟨%K, -, #Hinv, #Hr, Hat, Hopen, Htok⟩
  · isplitl [Hv]; · iexact Hv
    iexact Hu
  imodintro
  iapply (bigSep_with_persistent (R := records (ins m) K) (Φ := fun c => iprop(share c ∗ begin m c)) fun c _ => start_intro m K c)
  isplitr
  · unfold records
    isplitr; · iexact Hinv
    iexact Hr
  iapply hjoin
  isplitl [Hat]; · iexact Hat
  isplitl [Hopen]; · iexact Hopen
  isplitl [Htok]; · iexact Htok
  iexact HB

/-! ## The run -/

theorem unscoped_eq : ∀ sm : SemLoc sig, sm.isScoped .tc = false → sm = .reg barrier0 := by decide

set_option backward.isDefEq.respectTransparency.types false in
/-- Every weakly fair execution terminates, and leaves every buffer at `W₃` and every counter at zero. -/
theorem run_all : θ_run defs (onTc (τ := τ) (main (F := F))) (s₀ m ρ)
    (fun r => (∀ c : Dev nD, ∀ b ∈ Pipeline.ucRefs τ sig, r.2.mem (c, b) = W₃ m c b) ∧ r.2.sem = fun _ => 0) :=
  Pipeline.θ_run_regions_kit_sems (pcfgs (F := F)) adm (pdats m) () cellOf_inj EP defs₀ 𝒱₀ L lv m ρ main
    [.host (pre m), .region (reg m), .host (post m)]
    (fun c Q => by rw [main_segs adm (pdats m) () 𝒱₀ L lv (pre m) (post m) (reg m) rfl rfl c])
    (by simp only [Pipeline.Seg.pipes_host, Pipeline.Seg.pipes_region, Pipeline.Seg.pipes_nil]; decide)
    (O₀ := O₀) (hL := L_of_ne) (G := kept) (u₀ := u₀)
    (hu₀ := by
      unfold u₀
      iintro Hu
      ihave H := (ownU_pair _ _) $$ Hu
      icases H with ⟨HP, HX⟩
      imodintro
      isplitl [HP]; · iexact HP
      rw [kept_all]; iexact HX)
    (T₀ := fun c => iprop(StableHlo.held (c : Thread nD τ) (Pipeline.ucRefs τ sig) (fun b => m (c, b)) ∗ Rin m c))
    (Tₙ := fun c => iprop(StableHlo.held (c : Thread nD τ) (Pipeline.ucRefs τ sig) (W₃ m c) ∗ semVal (bar c) 0))
    (hch := by
      refine ⟨fun c => .rfl, fun c => reg_pre m c, fun c => reg_post m c, fun c => ?_⟩
      show iprop(StableHlo.held (c : Thread nD τ) (Pipeline.ucRefs τ sig) (W₃ m c) ∗ Rout c) ⊢ _
      unfold Rout
      iintro ⟨Hh, Hb, HO⟩
      isplitr [HO]
      · isplitl [Hh]; · iexact Hh
        iexact Hb
      iexact HO)
    (hinit := init m ρ)
    (QY := fun c s => (∀ b ∈ Pipeline.ucRefs τ sig, s.mem (c, b) = W₃ m c b) ∧ s.sem (bar c) = 0)
    (hfin := fun c s' => by
      unfold StableHlo.held
      iintro ⟨⟨Hh, Hb⟩, HSI⟩
      icombine HSI Hb gives %hb
      ihave Hr := (pointsTo_read_all (Pipeline.ucRefs τ sig) (fun b => ((c.tc : Thread nD τ).1, b)) (W₃ m c) s') $$ [Hh HSI]
      · isplitl [Hh]; · iexact Hh
        iexact HSI
      icases Hr with ⟨%hr, HSI⟩
      imodintro
      isplitr
      · ipureintro; exact ⟨hr, by simpa using hb⟩
      iexact HSI)
    (hQ := fun s h hs => ⟨fun c => (h c).1,
      sem_eq_zero hs fun c sm hsm => by
        obtain rfl := unscoped_eq sm hsm
        exact (h c).2⟩)

end Cert.KernelIdeal.Attn

end
-- ==== Proof.Result.lean ====
/- What the run leaves: the result on every device, as the host lines make it of the kernel's output, and the arguments unchanged. -/
module

public import proofs.«01_k».proof.Proof.Launch
public import Idealize.ShloMosaic.Lib.StableHlo.Run

@[expose] public section

noncomputable section

namespace Cert.KernelIdeal.Attn

open Idealize.ShloMosaic
open Idealize.ShloMosaic.TcCoe
open Idealize.SL.Sem
open Cert.KernelIdeal.Gen

variable {F : FTy → Type} [FloatOps F]
variable (m : (ℓ : Loc nD τ sig) → Buf (Elt F) ℓ) (ρ : Dev nD → PrngReg)

/-- The device's result: the kernel's output by heads, cut back into batches and heads and turned. -/
def result (c : Dev nD) : FVec F S2x512x8x64 .f32 :=
  transpose S2x512x8x64 [0, 2, 1, 3] (shapeCast S2x8x512x64 (OUT (ins m) c) shapeCasts_S16x512x64_S2x8x512x64) transposes_S2x8x512x64_S2x512x8x64_0_2_1_3

theorem left_out (c : Dev nD) : W₂ m c (Proc.devRef .tc main_v11) = OUT (ins m) c :=
  (Pipeline.afterRegion_arr (dat0 m c) (V0 m c) launch0.win.arr_inj 3).trans
    ((dat0 m c).arrAt_eq_of_after_last 3 t0_0 (by decide +kernel) (OUT (ins m) c) fun j => by
      rw [after_o]
      exact congrArg (OUT (ins m) c) (funext fun a => Fin.ext rfl))

theorem left_other (c : Dev nD) {b : Ref sig .tc} (hb : ∀ w, b ≠ Pipeline.arrRef spec0 w) : W₂ m c (Proc.devRef .tc b) = V m c b :=
  Pipeline.afterRegion_of_not_arr (dat0 m c) (V0 m c) hb

theorem end_result (c : Dev nD) : W₃ m c (Proc.devRef .tc main_v13) = result m c := by
  unfold result
  rw [← left_out]
  unfold W₃
  after_results
  rfl

theorem end_arg (c : Dev nD) {b : Ref sig .tc} (hb : ∀ w, b ≠ Pipeline.arrRef spec0 w) (h12 : b ≠ main_v12) (h13 : b ≠ main_v13) :
    W₃ m c (Proc.devRef .tc b) = V m c b := by
  rw [← left_other m c hb]
  exact StableHlo.after_of_forall_not_mem _ _ (List.forall_iff_forall_mem.mp (by
    simp only [hostOps1, List.Forall, StableHlo.unary_writes, StableHlo.reshape_writes, Finset.mem_singleton]
    exact ⟨StableHlo.devRef_ne_of_ne h12, StableHlo.devRef_ne_of_ne h13⟩))

/-- THE RUN: every weakly fair execution terminates, every device's result and arguments end as said, every counter at zero. -/
theorem run_main : θ_run defs (onTc (τ := τ) (main (F := F))) (s₀ m ρ) (fun r => (∀ c : Dev nD,
    r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
      have at' (b : Ref sig .tc) (hb : b.isScoped = false) : r.2.mem ((c.tc : Thread nD τ).loc b) = W₃ m c (Proc.devRef .tc b) :=
        h.1 c _ (Pipeline.devRef_mem_ucRefs hb)
      ⟨(at' main_v13 rfl).trans (end_result m c),
        (at' main_arg0 rfl).trans ((end_arg m c (by decide) (by decide) (by decide)).trans (V_main_arg0 m c)),
        (at' main_arg1 rfl).trans ((end_arg m c (by decide) (by decide) (by decide)).trans (V_main_arg1 m c)),
        (at' main_arg2 rfl).trans ((end_arg m c (by decide) (by decide) (by decide)).trans (V_main_arg2 m c))⟩, h.2⟩) (run_all m ρ)

/-! ## What the kernel is entered with -/

theorem in_q (c : Dev nD) : (ins m).q c = shapeCast S16x512x64 (transpose S2x8x512x64 [0, 2, 1, 3]
    (mulf (m ((c.tc : Thread nD τ).loc main_arg0)) (broadcastInDim S2x512x8x64 ![] bcast_S_S2x512x8x64 (constant S_ .bf16 0x3E00#16)))
    transposes_S2x512x8x64_S2x8x512x64_0_2_1_3) shapeCasts_S2x8x512x64_S16x512x64 := by
  show StableHlo.after hostOps0 (fun b => m (c, b)) (Proc.devRef .tc main_v4) = _
  after_results
  rfl

theorem in_k (c : Dev nD) : (ins m).k c = shapeCast S16x512x64 (transpose S2x8x512x64 [0, 2, 1, 3] (m ((c.tc : Thread nD τ).loc main_arg1))
    transposes_S2x512x8x64_S2x8x512x64_0_2_1_3) shapeCasts_S2x8x512x64_S16x512x64 := by
  show StableHlo.after hostOps0 (fun b => m (c, b)) (Proc.devRef .tc main_v6) = _
  after_results
  rfl

theorem in_v (c : Dev nD) : (ins m).v c = concatenate S16x512x65 2 [⟨S16x512x64, shapeCast S16x512x64 (transpose S2x8x512x64 [0, 2, 1, 3] (m ((c.tc : Thread nD τ).loc main_arg2))
    transposes_S2x512x8x64_S2x8x512x64_0_2_1_3) shapeCasts_S2x8x512x64_S16x512x64⟩,
    ⟨S16x512x1, broadcastInDim S16x512x1 ![] bcast_S_S16x512x1 (constant S_ .bf16 0x3F80#16)⟩] concatenates_S16x512x64_S16x512x1_S16x512x65_d2 := by
  show StableHlo.after hostOps0 (fun b => m (c, b)) (Proc.devRef .tc main_v10) = _
  after_results
  rfl

end Cert.KernelIdeal.Attn

end
-- ==== Proof.Frames.lean ====
/- The frames: the kernel as printed and as idealized are one text, so the one run over any float values is the run of both. -/
module

public import proofs.«01_k».proof.Defs
public import proofs.«01_k».proof.Proof.Result
public import proofs.«01_k».proof.Proof.Gen.Kernel
public import proofs.«01_k».proof.Proof.Gen.ReferenceIdeal.Run

@[expose] public section

noncomputable section

namespace Cert.Proof

open Idealize.ShloMosaic Idealize.SL.Sem

theorem body_eq : Cert.Kernel.cc0_body (F := Bits) = Cert.KernelIdeal.cc0_body (F := Bits) := rfl

theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  obtain rfl : l = 0 := Subsingleton.elim (α := Fin 1) _ _
  obtain ⟨t, s⟩ := a
  exact congrFun (congrFun (congrFun (congrFun (congrFun (congrFun (congrFun (congrFun (congrFun (congrFun (congrFun (congrFun
    (congrFun (congrFun (congrFun (congrFun (congrFun (congrFun body_eq _) _) _) _) _) _) _) _) _) _) _) _) _) _) _) _) _) _

theorem defs_eq : Cert.Kernel.defs (F := Bits) = Cert.KernelIdeal.defs (F := Bits) :=
  congrArg (Pipeline.defs (Cert.KernelIdeal.pcfgs (F := Bits))) defs₀_eq

theorem frame_kernel : Cert.quiescent_Kernel := by
  intro m ρ _
  rw [defs_eq]
  exact (θ_run Cert.KernelIdeal.defs _ _).mono (fun _ h => ⟨fun c => (h.1 c).2, h.2⟩) (Cert.KernelIdeal.Attn.run_main (F := Bits) m ρ)

theorem frame_kernelIdeal : Cert.quiescent_KernelIdeal := fun m ρ _ =>
  (θ_run Cert.KernelIdeal.defs _ _).mono (fun _ h => ⟨fun c => (h.1 c).2, h.2⟩) (Cert.KernelIdeal.Attn.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Heads.lean ====
/- One head over the extended reals, at an index: the sums over a block of keys. -/
module

public import proofs.«01_k».proof.Proof.Prog
public import Idealize.ShloMosaic.Lib.Pointwise

@[expose] public section

set_option maxRecDepth 16384

noncomputable section

namespace Cert.KernelIdeal.Attn

open Idealize.ShloMosaic
open Cert.KernelIdeal.Gen

theorem locVal_at (k : FVec Ideal S1x512x64 .bf16) (v : FVec Ideal S1x512x65 .bf16) (q : FVec Ideal S1x512x64 .bf16) (r : Fin 512) (n : Fin 65) :
    locVal (F := Ideal) k v q (ix3 0 r n)
      = ∑ j : Fin 512, Ideal.exp (∑ e : Fin 64, q (ix3 0 r e) * k (ix3 0 j e)) * v (ix3 0 j n) := by
  pointwise [locVal, k0_pay4]

theorem midVal_at (k : FVec Ideal S1x256x64 .bf16) (v : FVec Ideal S1x256x65 .bf16) (q : FVec Ideal S1x512x64 .bf16) (o : FVec Ideal S1x512x65 .f32) (r : Fin 512) (n : Fin 65) :
    midVal (F := Ideal) k v q o (ix3 0 r n)
      = o (ix3 0 r n) + ∑ j : Fin 256, Ideal.exp (∑ e : Fin 64, q (ix3 0 r e) * k (ix3 0 j e)) * v (ix3 0 j n) := by
  pointwise [midVal, k0_pay30]

theorem finVal_at (k : FVec Ideal S1x256x64 .bf16) (v : FVec Ideal S1x256x65 .bf16) (q : FVec Ideal S1x512x64 .bf16) (o : FVec Ideal S1x512x65 .f32) (r : Fin 512) (n : Fin 64) :
    finVal (F := Ideal) k v q o (ix3 0 r n)
      = Ideal.div (o (ix3 0 r ⟨n.val, by omega⟩) + ∑ j : Fin 256, Ideal.exp (∑ e : Fin 64, q (ix3 0 r e) * k (ix3 0 j e)) * v (ix3 0 j ⟨n.val, by omega⟩))
          (o (ix3 0 r 64) + ∑ j : Fin 256, Ideal.exp (∑ e : Fin 64, q (ix3 0 r e) * k (ix3 0 j e)) * v (ix3 0 j 64)) := by
  pointwise [finVal, k0_pay85]

end Cert.KernelIdeal.Attn

end
-- ==== Proof.Soft.lean ====
/- Means weighted by exponentials, over the extended reals: the shift by the maximum cancels, whatever the values are. -/
module

public import Idealize.ShloMosaic.PureOps.Ideal.Laws
public import Mathlib.Data.EReal.Inv

@[expose] public section

noncomputable section

namespace Cert.Soft

open Idealize.ShloMosaic

variable {ι : Type} [Fintype ι]

/-- A finite positive factor moves into a sum of extended reals. -/
theorem mul_sum (s : Finset ι) {r : ℝ} (hr : 0 ≤ r) (f : ι → EReal) : (r : EReal) * ∑ j ∈ s, f j = ∑ j ∈ s, (r : EReal) * f j := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

theorem coe_sum (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem div_coe (x : EReal) {y : ℝ} (hy : 0 < y) : Ideal.div x y = (y⁻¹ : ℝ) * x := by
  unfold Ideal.div
  rw [if_neg (by exact_mod_cast hy.ne'), mul_comm, EReal.coe_inv]

/-- The maximum of finitely many reals, some, is real. -/
theorem fold_max_coe (t : Finset ι) (s : ι → ℝ) (ht : t.Nonempty) : ∃ μ : ℝ, t.fold max (⊥ : EReal) (fun j => (s j : EReal)) = μ := by
  classical
  induction ht using Finset.Nonempty.cons_induction with
  | singleton a => exact ⟨s a, by simp⟩
  | cons a t ha _ ih =>
    obtain ⟨μ, hμ⟩ := ih
    exact ⟨max (s a) μ, by rw [Finset.fold_cons, hμ]; exact (EReal.coe_strictMono.monotone.map_max).symm⟩

/-- THE SHIFT CANCELS: the weighted mean is the sum of the values by the normalised weights, the scores less their maximum. -/
theorem mean_eq [Nonempty ι] (s : ι → ℝ) (v : ι → EReal) :
    Ideal.div (∑ j, Ideal.exp (s j : EReal) * v j) (∑ j, Ideal.exp (s j : EReal))
      = ∑ j, v j * Ideal.div (Ideal.exp ((s j : EReal) - Finset.univ.fold max ⊥ fun j' => (s j' : EReal)))
          (∑ j', Ideal.exp ((s j' : EReal) - Finset.univ.fold max ⊥ fun j' => (s j' : EReal))) := by
  obtain ⟨μ, hμ⟩ := fold_max_coe Finset.univ s Finset.univ_nonempty
  rw [hμ]
  have h1 : ∀ x : ℝ, Ideal.exp (x : EReal) = (Real.exp x : ℝ) := fun _ => rfl
  have h2 : ∀ x : ℝ, (x : EReal) - (μ : EReal) = ((x - μ : ℝ) : EReal) := fun x => (EReal.coe_sub x μ).symm
  simp only [h2, h1, ← coe_sum]
  have p1 : 0 < ∑ j, Real.exp (s j) := Finset.sum_pos (fun _ _ => Real.exp_pos _) Finset.univ_nonempty
  have p2 : 0 < ∑ j, Real.exp (s j - μ) := Finset.sum_pos (fun _ _ => Real.exp_pos _) Finset.univ_nonempty
  rw [div_coe _ p1, mul_sum _ (inv_pos.mpr p1).le]
  refine Finset.sum_congr rfl fun j _ => ?_
  rw [div_coe _ p2, mul_comm (v j), ← mul_assoc, ← EReal.coe_mul, ← EReal.coe_mul]
  congr 2
  have p3 : ∑ j, Real.exp (s j - μ) = (∑ j, Real.exp (s j)) * (Real.exp μ)⁻¹ := by
    rw [Finset.sum_mul]; exact Finset.sum_congr rfl fun j _ => by rw [Real.exp_sub, div_eq_mul_inv]
  rw [p3, Real.exp_sub, mul_inv, inv_inv, div_eq_mul_inv]
  field_simp

/-- An eighth, as either format writes it; and minus infinity. -/
theorem eighth_bf16 : Ideal.ofBits .bf16 0x3E00#16 = ((1 / 8 : ℝ) : EReal) := by
  simp [Ideal.ofBits, Ideal.ieee]; norm_num
  exact (EReal.coe_mul _ _).symm.trans (congrArg _ (by norm_num))
theorem eighth_f32 : Ideal.ofBits .f32 0x3E000000#32 = ((1 / 8 : ℝ) : EReal) := by
  simp [Ideal.ofBits, Ideal.ieee]; norm_num
  exact (EReal.coe_mul _ _).symm.trans (congrArg _ (by norm_num))
theorem bot_f32 : Ideal.ofBits .f32 0xFF800000#32 = ⊥ := by simp [Ideal.ofBits, Ideal.ieee]
theorem top_bf16 : Ideal.ofBits .bf16 0x7F80#16 = ⊤ := by simp [Ideal.ofBits, Ideal.ieee]
theorem one_bf16 : Ideal.ofBits .bf16 0x3F80#16 = 1 := by
  simp [Ideal.ofBits, Ideal.ieee]
  exact (EReal.coe_mul _ _).symm.trans (congrArg _ (by norm_num))

/-- 1024 keys, as the device meets them: 512 of one half, then the other half's two quarters in either order. -/
theorem sum_parts (f : ℕ → EReal) {x y : ℕ} (hx : x < 2) (hy : y < 2) :
    ∑ j : Fin 1024, f j.val = ((∑ j : Fin 512, f (y * 512 + j.val)) + ∑ j : Fin 256, f ((1 - y) * 512 + (x * 256 + j.val)))
      + ∑ j : Fin 256, f ((1 - y) * 512 + ((1 - x) * 256 + j.val)) := by
  rw [Fin.sum_univ_eq_sum_range f 1024, Fin.sum_univ_eq_sum_range (fun j => f (y * 512 + j)) 512,
    Fin.sum_univ_eq_sum_range (fun j => f ((1 - y) * 512 + (x * 256 + j))) 256, Fin.sum_univ_eq_sum_range (fun j => f ((1 - y) * 512 + ((1 - x) * 256 + j))) 256]
  have half (o : ℕ) : ∑ j ∈ Finset.range 512, f (o + j) = ∑ j ∈ Finset.range 256, f (o + j) + ∑ j ∈ Finset.range 256, f (o + (256 + j)) :=
    Finset.sum_range_add (fun j => f (o + j)) 256 256
  have whole : ∑ j ∈ Finset.range 1024, f j = ∑ j ∈ Finset.range 512, f (0 + j) + ∑ j ∈ Finset.range 512, f (512 + j) := by
    simpa using Finset.sum_range_add f 512 512
  rw [whole, half 0, half 512, half (y * 512)]
  interval_cases y <;> interval_cases x <;> simp <;> ac_rfl

end Cert.Soft

end
-- ==== Proof.Value.lean ====
/- What a device computes, by the whole arrays: its queries against all 1024 keys. -/
module

public import proofs.«01_k».proof.Proof.Heads
public import proofs.«01_k».proof.Proof.Pieces
public import proofs.«01_k».proof.Proof.Soft

@[expose] public section

set_option maxRecDepth 16384

noncomputable section

namespace Cert.KernelIdeal.Attn

open Idealize.ShloMosaic
open Cert.KernelIdeal.Gen

/-- A whole array: batch, row, head, column. -/
abbrev Whole := (⟨4, ![2, 1024, 8, 64]⟩ : Shape).Idx → EReal

/-- An array's element at a row given as a number, zero past the last row. -/
def keyRow (A : Whole) (b : Fin 2) (h : Fin 8) (j : ℕ) (e : Fin 64) : EReal := if hj : j < 1024 then A (ix4 b ⟨j, hj⟩ h e) else 0

theorem keyRow_fin (A : Whole) (b : Fin 2) (h : Fin 8) (j : Fin 1024) (e : Fin 64) : keyRow A b h j.val e = A (ix4 b j h e) := dif_pos j.isLt

/-- The same with the column of ones behind the values. -/
def keyRow1 (A : Whole) (b : Fin 2) (h : Fin 8) (j : ℕ) (n : Fin 65) : EReal := if hn : n.val < 64 then keyRow A b h j ⟨n.val, hn⟩ else 1

/-- The coordinates of a device over x and y. -/
def xc (c : Dev nD) : ℕ := c.val / 4
def yc (c : Dev nD) : ℕ := c.val / 2 % 2
theorem xc_lt (c : Dev nD) : xc c < 2 := by revert c; decide
theorem yc_lt (c : Dev nD) : yc c < 2 := by revert c; decide
theorem yc_yp (c : Dev nD) : yc (yp c) = 1 - yc c := by revert c; decide
theorem yc_yp_xp (c : Dev nD) : yc (yp (xp c)) = 1 - yc c := by revert c; decide
theorem myRow_xc (c : Dev nD) : myRow c = xc c * 256 := Nat.mul_comm _ _
theorem otRow_xc (c : Dev nD) : otRow c = (1 - xc c) * 256 := Nat.mul_comm _ _

/-- Which of the sixteen a head of a batch is. -/
abbrev hid (b : Fin 2) (h : Fin 8) : Fin 16 := ⟨b.val * 8 + h.val, by omega⟩

/-- The devices hold their blocks of the whole arrays, the queries scaled, the ones behind the values. -/
structure Holds (D : Ins Ideal) (s : EReal) (Q K V : Whole) : Prop where
  q : ∀ c b h (r : Fin 512) e, D.q c (ix3 (hid b h) r e) = keyRow Q b h (yc c * 512 + r.val) e * s
  k : ∀ c b h (r : Fin 512) e, D.k c (ix3 (hid b h) r e) = keyRow K b h (yc c * 512 + r.val) e
  v : ∀ c b h (r : Fin 512) n, D.v c (ix3 (hid b h) r n) = keyRow1 V b h (yc c * 512 + r.val) n

theorem emb_in {s : Shape} (r : Rect s) (x : r.shape.Idx) : r.emb x ∈ r.set :=
  (LoadRect.mem_set _).mpr fun a => ⟨(x a).val, (x a).isLt, rfl⟩

theorem head_emb {n len lo : ℕ} {off : Fin 3 → ℕ} {t : Fin 16} (ho : off = ![t.val, lo, 0]) (hl : lo + len ≤ 512) (inb) (j : Fin len) (e : Fin n) :
    (Rect.unit (s := ⟨3, ![16, 512, n]⟩) off ![1, len, n] inb).emb (ix3 (0 : Fin 1) j e) = ix3 t ⟨lo + j.val, by omega⟩ e := by
  subst ho
  funext a
  apply Fin.ext
  fin_cases a
  · show t.val + 1 * 0 = t.val; omega
  · show lo + 1 * j.val = lo + j.val; omega
  · show 0 + 1 * e.val = e.val; omega

variable {D : Ins Ideal} {s : EReal} {Q K V : Whole} (H : Holds D s Q K V) (c : Dev nD) (b : Fin 2) (h : Fin 8)
include H

theorem q_at (r : Fin 512) (e : Fin 64) : D.q c ((rh64 (hid b h)).emb (ix3 (0 : Fin 1) r e)) = keyRow Q b h (yc c * 512 + r.val) e * s := by
  rw [head_emb (t := hid b h) (lo := 0) rfl (by omega)]
  simpa only [Nat.zero_add] using H.q c b h r e

theorem k_at (j : Fin 512) (e : Fin 64) : D.k c ((rh64 (hid b h)).emb (ix3 (0 : Fin 1) j e)) = keyRow K b h (yc c * 512 + j.val) e := by
  rw [head_emb (t := hid b h) (lo := 0) rfl (by omega)]
  simpa only [Nat.zero_add] using H.k c b h j e

theorem v_at (j : Fin 512) (n : Fin 65) : D.v c ((rh65 (hid b h)).emb (ix3 (0 : Fin 1) j n)) = keyRow1 V b h (yc c * 512 + j.val) n := by
  rw [head_emb (t := hid b h) (lo := 0) rfl (by omega)]
  simpa only [Nat.zero_add] using H.v c b h j n

theorem km_at (j : Fin 256) (e : Fin 64) : KR D c ((rm64 c (hid b h)).emb (ix3 (0 : Fin 1) j e)) = keyRow K b h ((1 - yc c) * 512 + (xc c * 256 + j.val)) e := by
  rw [KR_my D c (Nat.le_refl _) (Nat.le_refl _) _ (rm64_sub c (hid b h) (emb_in _ _)), head_emb (offMy_eq c _) (myRow_le c), H.k, yc_yp, ← myRow_xc]

theorem vm_at (j : Fin 256) (n : Fin 65) : VR D c ((rm65 c (hid b h)).emb (ix3 (0 : Fin 1) j n)) = keyRow1 V b h ((1 - yc c) * 512 + (xc c * 256 + j.val)) n := by
  rw [VR_my D c (Nat.le_refl _) (Nat.le_refl _) _ (rm65_sub c (hid b h) (emb_in _ _)), head_emb (offMy_eq c _) (myRow_le c), H.v, yc_yp, ← myRow_xc]

theorem ko_at (j : Fin 256) (e : Fin 64) : KR D c ((ro64 c (hid b h)).emb (ix3 (0 : Fin 1) j e)) = keyRow K b h ((1 - yc c) * 512 + ((1 - xc c) * 256 + j.val)) e := by
  rw [KR_ot D c (Nat.le_refl _) (Nat.le_refl _) _ (ro64_sub c (hid b h) (emb_in _ _)), head_emb (offOt_eq c _) (otRow_le c), H.k, yc_yp_xp, ← otRow_xc]

theorem vo_at (j : Fin 256) (n : Fin 65) : VR D c ((ro65 c (hid b h)).emb (ix3 (0 : Fin 1) j n)) = keyRow1 V b h ((1 - yc c) * 512 + ((1 - xc c) * 256 + j.val)) n := by
  rw [VR_ot D c (Nat.le_refl _) (Nat.le_refl _) _ (ro65_sub c (hid b h) (emb_in _ _)), head_emb (offOt_eq c _) (otRow_le c), H.v, yc_yp_xp, ← otRow_xc]

omit H in
/-- What key `j` adds to column `n` of the sums of query row `i`. -/
def term (s : EReal) (Q K V : Whole) (b : Fin 2) (h : Fin 8) (i : ℕ) (n : Fin 65) (j : ℕ) : EReal :=
  Ideal.exp (∑ e : Fin 64, keyRow Q b h i e * s * keyRow K b h j e) * keyRow1 V b h j n

/-- The sums over the three blocks of keys a device meets are the sum over all the keys. -/
theorem mid_at (r : Fin 512) (n : Fin 65) : midV D c (hid b h) (ix3 0 r n)
    = (∑ j : Fin 512, term s Q K V b h (yc c * 512 + r.val) n (yc c * 512 + j.val))
      + ∑ j : Fin 256, term s Q K V b h (yc c * 512 + r.val) n ((1 - yc c) * 512 + (xc c * 256 + j.val)) := by
  unfold midV locV
  rw [midVal_at, locVal_at]
  simp only [q_at H, k_at H, v_at H, km_at H, vm_at H]
  rfl

theorem fin_at (r : Fin 512) (n : Fin 64) : finV D c (hid b h) (ix3 0 r n)
    = Ideal.div (∑ j : Fin 1024, term s Q K V b h (yc c * 512 + r.val) ⟨n.val, by omega⟩ j.val) (∑ j : Fin 1024, term s Q K V b h (yc c * 512 + r.val) 64 j.val) := by
  unfold finV
  rw [finVal_at, mid_at H, mid_at H]
  simp only [q_at H, ko_at H, vo_at H]
  rw [Soft.sum_parts (term s Q K V b h (yc c * 512 + r.val) ⟨n.val, by omega⟩) (xc_lt c) (yc_lt c),
    Soft.sum_parts (term s Q K V b h (yc c * 512 + r.val) 64) (xc_lt c) (yc_lt c)]
  rfl

/-- The device's output, by heads. -/
theorem out_at (r : Fin 512) (n : Fin 64) : OUT D c (ix3 (hid b h) r n)
    = Ideal.div (∑ j : Fin 1024, term s Q K V b h (yc c * 512 + r.val) ⟨n.val, by omega⟩ j.val) (∑ j : Fin 1024, term s Q K V b h (yc c * 512 + r.val) 64 j.val) := by
  rw [← fin_at H c b h r n]
  exact congrArg (finV D c (hid b h)) (funext fun a => by fin_cases a <;> rfl)

end Cert.KernelIdeal.Attn

end
-- ==== Proof.RefAt.lean ====
/- The reference at an index: the weighted mean of the values, the weights the exponentials of the scores less their maximum. -/
module

public import proofs.«01_k».proof.Proof.Gen.ReferenceIdeal.Run
public import Idealize.ShloMosaic.Lib.Pointwise

@[expose] public section

set_option maxRecDepth 16384

noncomputable section

namespace Cert.ReferenceIdeal.Value

open Idealize.ShloMosaic
open Cert.ReferenceIdeal Cert.ReferenceIdeal.Gen

/-- All the scores. -/
def scores (Q K : FVec Ideal S2x1024x8x64 .bf16) : FVec Ideal S2x8x1024x1024 .f32 :=
  mulf (Host.dotGeneral dot_S2x1024x8x64_S2x1024x8x64_S2x8x1024x1024_3_3_1_1_02_02 none (extf .f32 Q bitsLt_bf16_f32) (extf .f32 K bitsLt_bf16_f32))
    (broadcastInDim S2x8x1024x1024 ![] bcast_S_S2x8x1024x1024 (constant S_ .f32 0x3E000000#32))

/-- The exponentials of the scores, each row's less the row's greatest. -/
def shifted (S : FVec Ideal S2x8x1024x1024 .f32) : FVec Ideal S2x8x1024x1024 .f32 :=
  Host.exp (subf S (broadcastInDim S2x8x1024x1024 ![0, 1, 2, 3] bcast_S2x8x1024x1_S2x8x1024x1024_0_1_2_3 (broadcastInDim S2x8x1024x1 ![0, 1, 2] bcast_S2x8x1024_S2x8x1024x1_0_1_2
    (Host.reduce FloatOps.maximumf S (constant S_ .f32 0xFF800000#32) reducesTo_S2x8x1024x1024_S2x8x1024_d3 h_S_))))

/-- The reference's result. -/
def answer (Q K V : FVec Ideal S2x1024x8x64 .bf16) : FVec Ideal S2x1024x8x64 .f32 :=
  transpose S2x1024x8x64 [0, 3, 1, 2] (Host.dotGeneral dot_S2x1024x8x64_S2x8x1024x1024_S2x8x64x1024_1_3_3_2_02_01 none (extf .f32 V bitsLt_bf16_f32)
    (Host.divf (shifted (scores Q K)) (broadcastInDim S2x8x1024x1024 ![0, 1, 2, 3] bcast_S2x8x1024x1_S2x8x1024x1024_0_1_2_3 (broadcastInDim S2x8x1024x1 ![0, 1, 2] bcast_S2x8x1024_S2x8x1024x1_0_1_2
      (Host.reduceAdd (shifted (scores Q K)) (constant S_ .f32 0x00000000#32) reducesTo_S2x8x1024x1024_S2x8x1024_d3 h_S_))))) transposes_S2x8x64x1024_S2x1024x8x64_0_3_1_2

theorem scores_at (Q K : FVec Ideal S2x1024x8x64 .bf16) (b : Fin 2) (h : Fin 8) (i j : Fin 1024) :
    scores Q K (ix4 b h i j) = (∑ e : Fin 64, Q (ix4 b i h e) * K (ix4 b j h e)) * Ideal.ofBits .f32 0x3E000000#32 := by
  pointwise [scores]

theorem shifted_at (S : FVec Ideal S2x8x1024x1024 .f32) (b : Fin 2) (h : Fin 8) (i j : Fin 1024) :
    shifted S (ix4 b h i j) = Ideal.exp (S (ix4 b h i j) - Finset.univ.fold max (Ideal.ofBits .f32 0xFF800000#32) fun j' : Fin 1024 => S (ix4 b h i j')) := by
  pointwise [shifted]

theorem answer_at (Q K V : FVec Ideal S2x1024x8x64 .bf16) (b : Fin 2) (i : Fin 1024) (h : Fin 8) (d : Fin 64) :
    answer Q K V (ix4 b i h d)
      = ∑ j : Fin 1024, V (ix4 b j h d) * Ideal.div (shifted (scores Q K) (ix4 b h i j)) (∑ j' : Fin 1024, shifted (scores Q K) (ix4 b h i j')) := by
  pointwise [answer]

end Cert.ReferenceIdeal.Value

end
-- ==== Proof.Agree.lean ====
/- The value claim: every device's result is its block of the reference's. -/
module

public import proofs.«01_k».proof.Proof.Value
public import proofs.«01_k».proof.Proof.RefAt
public import proofs.«01_k».proof.Proof.Result
public import proofs.«01_k».proof.Defs

@[expose] public section

set_option maxRecDepth 16384

noncomputable section

namespace Cert.KernelIdeal.Attn

open Idealize.ShloMosaic
open Idealize.ShloMosaic.TcCoe
open Cert.KernelIdeal.Gen

/-- A device's block of a whole array. -/
abbrev blk (c : Dev nD) (A : Whole) : (⟨4, ![2, 512, 8, 64]⟩ : Shape).Idx → EReal :=
  Layout.blockN ⟨4, ![2, 512, 8, 64]⟩ ⟨4, ![2, 1024, 8, 64]⟩ (Layout.meshBlock [2, 2, 2] ![[], [1], [], []] c) A

theorem blk_at (c : Dev nD) (A : Whole) (b : Fin 2) (r : Fin 512) (h : Fin 8) (e : Fin 64) :
    blk c A (ix4 b r h e) = A (ix4 b ⟨yc c * 512 + r.val, by have := yc_lt c; omega⟩ h e) := by
  refine congrArg A (funext fun a => Fin.ext ?_)
  have hy : Layout.meshLin [2, 2, 2] c.val [1] = yc c := by revert c; decide
  fin_cases a
  · show 0 * 2 + b.val = b.val; omega
  · show Layout.meshLin [2, 2, 2] c.val [1] * 512 + r.val = yc c * 512 + r.val
    rw [hy]
  · show 0 * 8 + h.val = h.val; omega
  · show 0 * 64 + e.val = e.val; omega

theorem blk_row (c : Dev nD) (A : Whole) (b : Fin 2) (r : Fin 512) (h : Fin 8) (e : Fin 64) : blk c A (ix4 b r h e) = keyRow A b h (yc c * 512 + r.val) e :=
  (blk_at c A b r h e).trans (keyRow_fin A b h ⟨yc c * 512 + r.val, by have := yc_lt c; omega⟩ e).symm

variable (m : (ℓ : Loc nD τ sig) → Buf (Elt Ideal) ℓ)

/-- Heads of batches, as they are numbered, at an index. -/
theorem heads_at (X : FVec Ideal S2x512x8x64 .bf16) (b : Fin 2) (h : Fin 8) (r : Fin 512) (e : Fin 64) :
    shapeCast S16x512x64 (transpose S2x8x512x64 [0, 2, 1, 3] X transposes_S2x512x8x64_S2x8x512x64_0_2_1_3) shapeCasts_S2x8x512x64_S16x512x64 (ix3 (hid b h) r e)
      = X (ix4 b r h e) := by
  have h1 : (b.val * 8 + h.val) / 8 = b.val := by omega
  have h2 : (b.val * 8 + h.val) % 8 = h.val := by omega
  pointwise
  simp only [h1, h2]

theorem holds (A0 A1 A2 : Whole) (hm : ∀ c : Dev nD, m ((c.tc : Thread nD τ).loc main_arg0) = blk c A0
    ∧ m ((c.tc : Thread nD τ).loc main_arg1) = blk c A1 ∧ m ((c.tc : Thread nD τ).loc main_arg2) = blk c A2) :
    Holds (ins m) (Ideal.ofBits .bf16 0x3E00#16) A0 A1 A2 where
  q c b h r e := by
    rw [in_q, heads_at, (hm c).1, ← blk_row]
    pointwise
  k c b h r e := by rw [in_k, heads_at, (hm c).2.1, ← blk_row]
  v c b h r n := by
    rw [in_v, (hm c).2.2]
    unfold keyRow1
    pointwise
    simp only [blk_row]

theorem result_at (c : Dev nD) (b : Fin 2) (r : Fin 512) (h : Fin 8) (d : Fin 64) :
    result m c (ix4 b r h d) = OUT (ins m) c (ix3 (hid b h) r d) := by
  unfold result
  generalize OUT (ins m) c = X
  pointwise

theorem both_one {p q : Bool} (h : IntOp.andi (BitVec.ofBool p) (BitVec.ofBool q) = 1#1) : p = true ∧ q = true := by
  revert h; cases p <;> cases q <;> decide

/-- What is below infinity in size is real. -/
theorem real_of {x : EReal} (h : max x (-x) < ⊤) : ∃ r : ℝ, x = r := by
  induction x with
  | bot => simp at h
  | top => simp at h
  | coe r => exact ⟨r, rfl⟩

/-- The precondition, at an index: the query and the key there are real. -/
theorem of_pre [Cert.Pre_finite_scores_KernelIdeal.Facts] (X Y Z : FVec Ideal S2x512x8x64 .bf16)
    (hp : Cert.Pre_finite_scores_KernelIdeal.fn (F := Ideal) X Y Z = fun _ => 1#1) (i : S2x512x8x64.Idx) : (∃ x : ℝ, X i = x) ∧ ∃ y : ℝ, Y i = y := by
  have h := congrFun hp i
  idx_vars i
  pointwise [Cert.Pre_finite_scores_KernelIdeal.fn] at h
  rw [Soft.top_bf16] at h
  obtain ⟨h1, h2⟩ := both_one h
  exact ⟨real_of (of_decide_eq_true h1), real_of (of_decide_eq_true h2)⟩

/-- A device that holds row `j`. -/
def holder (j : Fin 1024) : Dev nD := ⟨2 * (j.val / 512), by show _ < 8; omega⟩
theorem yc_holder (j : Fin 1024) : yc (holder j) = j.val / 512 := by show 2 * (j.val / 512) / 2 % 2 = _; omega

theorem whole_at (A : Whole) (b : Fin 2) (j : Fin 1024) (h : Fin 8) (e : Fin 64) :
    A (ix4 b j h e) = blk (holder j) A (ix4 b ⟨j.val % 512, by omega⟩ h e) := by
  rw [blk_row, yc_holder, ← keyRow_fin A b h j e]
  exact congrArg (fun t => keyRow A b h t e) (show j.val = j.val / 512 * 512 + j.val % 512 by omega)

/-- The reference's answer with finite queries and keys is the quotient of the two sums. -/
theorem answer_eq (Q K V : Whole) (hQ : ∀ i, ∃ x : ℝ, Q i = x) (hK : ∀ i, ∃ x : ℝ, K i = x) (b : Fin 2) (i : Fin 1024) (h : Fin 8) (d : Fin 64) :
    Cert.ReferenceIdeal.Value.answer Q K V (ix4 b i h d)
      = Ideal.div (∑ j : Fin 1024, term (Ideal.ofBits .bf16 0x3E00#16) Q K V b h i.val ⟨d.val, by omega⟩ j.val)
          (∑ j : Fin 1024, term (Ideal.ofBits .bf16 0x3E00#16) Q K V b h i.val 64 j.val) := by
  choose q hq using hQ
  choose k hk using hK
  rw [Cert.ReferenceIdeal.Value.answer_at]
  simp only [Cert.ReferenceIdeal.Value.shifted_at, Cert.ReferenceIdeal.Value.scores_at, term, keyRow_fin, hq, hk, Soft.eighth_bf16, Soft.eighth_f32, Soft.bot_f32]
  have s1 : ∀ j : Fin 1024, (∑ e : Fin 64, ((q (ix4 b i h e) : ℝ) : EReal) * (k (ix4 b j h e) : ℝ)) * ((1 / 8 : ℝ) : EReal)
      = ((∑ e : Fin 64, q (ix4 b i h e) * k (ix4 b j h e)) * (1 / 8) : ℝ) := fun j => by
    rw [EReal.coe_mul, Soft.coe_sum]; simp only [EReal.coe_mul]
  have s2 : ∀ j : Fin 1024, (∑ e : Fin 64, ((q (ix4 b i h e) : ℝ) : EReal) * ((1 / 8 : ℝ) : EReal) * (k (ix4 b j h e) : ℝ))
      = ((∑ e : Fin 64, q (ix4 b i h e) * k (ix4 b j h e)) * (1 / 8) : ℝ) := fun j => by
    rw [Finset.sum_mul, Soft.coe_sum]
    exact Finset.sum_congr rfl fun e _ => by rw [← EReal.coe_mul, ← EReal.coe_mul]; congr 1; ring
  have v1 : ∀ j : Fin 1024, keyRow1 V b h j.val ⟨d.val, by omega⟩ = V (ix4 b j h d) := fun j => (dif_pos d.isLt).trans (keyRow_fin V b h j d)
  have v2 : ∀ j : Fin 1024, keyRow1 V b h j.val 64 = 1 := fun j => dif_neg (by decide)
  simp only [s1, s2, v1, v2, mul_one]
  exact (Soft.mean_eq _ _).symm

/-- EVERY DEVICE'S RESULT IS ITS BLOCK OF THE REFERENCE'S. -/
theorem agree [Cert.Pre_finite_scores_KernelIdeal.Facts] (A0 A1 A2 : Whole) (hm : ∀ c : Dev nD, m ((c.tc : Thread nD τ).loc main_arg0) = blk c A0
    ∧ m ((c.tc : Thread nD τ).loc main_arg1) = blk c A1 ∧ m ((c.tc : Thread nD τ).loc main_arg2) = blk c A2)
    (hp : ∀ c : Dev nD, Cert.Pre_finite_scores_KernelIdeal.fn (F := Ideal) (m ((c.tc : Thread nD τ).loc main_arg0)) (m ((c.tc : Thread nD τ).loc main_arg1))
      (m ((c.tc : Thread nD τ).loc main_arg2)) = fun _ => 1#1) (c : Dev nD) :
    result m c = blk c (Cert.ReferenceIdeal.Value.answer A0 A1 A2) := by
  have real (i : (⟨4, ![2, 1024, 8, 64]⟩ : Shape).Idx) : (∃ x : ℝ, A0 i = x) ∧ ∃ y : ℝ, A1 i = y := by
    idx_vars i
    rw [whole_at A0, whole_at A1, ← (hm _).1, ← (hm _).2.1]
    exact of_pre _ _ _ (hp _) _
  funext i
  idx_vars i
  rw [blk_at, answer_eq A0 A1 A2 (fun i => (real i).1) (fun i => (real i).2), result_at, out_at (holds m A0 A1 A2 hm)]

end Cert.KernelIdeal.Attn

namespace Cert.Proof

open Idealize.ShloMosaic Idealize.SL.Sem

theorem algebraic [Cert.Pre_finite_scores_KernelIdeal.Facts] : Cert.algebraic_KernelIdeal_ReferenceIdeal_pre_finite_scores_KernelIdeal := by
  intro m g m' g' hp hm
  refine ⟨_, (θ_run Cert.KernelIdeal.defs _ _).mono (fun _ h c => ⟨(h.1 c).1.trans (Cert.KernelIdeal.Attn.agree m _ _ _ hm hp c), (h.1 c).2⟩)
      (Cert.KernelIdeal.Attn.run_main (F := Ideal) m g),
    (θ_run Cert.ReferenceIdeal.defs _ _).mono (fun _ h => h 0) (Cert.ReferenceIdeal.Value.run (F := Ideal) m' g')⟩

end Cert.Proof

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem

theorem pre_facts : Cert.Pre_finite_scores_KernelIdeal.Facts := ⟨by decide⟩
theorem pre_facts_reference : Cert.Pre_finite_scores_ReferenceIdeal.Facts := ⟨by decide⟩

theorem claim : Cert.Claim := ⟨Cert.Kernel.Gen.facts, Cert.KernelIdeal.Gen.facts, Cert.ReferenceIdeal.Gen.facts, pre_facts, pre_facts_reference,
  frame_kernel, frame_kernelIdeal, fun m g _ => frame_kernelIdeal m g trivial, frame_reference, fun m g _ => frame_reference m g trivial, trivial,
  have := pre_facts; algebraic⟩

end Cert.Proof

end
